-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_finite_and_in_range : Cert.Pre_finite_and_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S100000x256 : Shape := ⟨2, ![100000, 256]⟩
abbrev S100000 : Shape := ⟨1, ![100000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S256x1 : Shape := ⟨2, ![256, 1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1 : S_.BroadcastsInDim S1 (![] : Fin 0 → Fin S1.rank)
  reducesTo_S1_S_d0 : S1.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v5 : IVec S_ 1) (main_v9 : IVec S_ 1) (main_v13 : IVec S_ 1) (main_v14 : FVec F S256x1 .f32) (main_v15 : FVec F S256x1 .f32) : IVec S_ 1 :=
  let main_v16 : IVec S256x1 1 := cmpf .olt main_v14 main_v15
  let main_c_6 : IVec S_ 1 := constantI S_ 1 1#1
  let main_v17 : IVec S_ 1 := (fun x v => Host.reduce IntOp.andi x v reducesTo_S256x1_S_d0_1 h_S_) main_v16 main_c_6
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S100000x256 .f32) (main_arg1 : IVec S100000 32) (main_arg2 : FVec F S256x16 .f32) (main_arg3 : FVec F S16 .f32) (main_arg4 : FVec F S16x1 .f32) (main_arg5 : FVec F S1 .f32) (main_arg6 : FVec F S256x1 .f32) (main_arg7 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : FVec F S100000x256 .f32 := Host.absf main_arg0
  let main_cst : FVec F S_ .f32 := constant S_ .f32 0x7F800000#32
  let main_v7 : FVec F S100000x256 .f32 := broadcastInDim S100000x256 ![] bcast_S_S100000x256 main_cst
  let main_v8 : IVec S100000x256 1 := cmpf .olt main_v6 main_v7
  let main_c_2 : IVec S_ 1 := constantI S_ 1 1#1
  let main_v9 : IVec S_ 1 := (fun x v => Host.reduce IntOp.andi x v reducesTo_S100000x256_S_d0_1 h_S_) main_v8 main_c_2
  let main_v10 : FVec F S1 .f32 := Host.absf main_arg5
  let main_cst_3 : FVec F S_ .f32 := constant S_ .f32 0x7F800000#32
  let main_v11 : FVec F S1 .f32 := broadcastInDim S1 ![] bcast_S_S1 main_cst_3
  let main_v12 : IVec S1 1 := cmpf .olt main_v10 main_v11
  let main_c_4 : IVec S_ 1 := constantI S_ 1 1#1
  let main_v13 : IVec S_ 1 := (fun x v => Host.reduce IntOp.andi x v reducesTo_S1_S_d0 h_S_) main_v12 main_c_4
  let main_v14 : FVec F S256x1 .f32 := Host.absf main_arg6
  let main_cst_5 : FVec F S_ .f32 := constant S_ .f32 0x7F800000#32
  let main_v15 : FVec F S256x1 .f32 := broadcastInDim S256x1 ![] bcast_S_S256x1 main_cst_5
  fn_part1 (F := F) main_v5 main_v9 main_v13 main_v14 main_v15
-- ==== Pre_ids_in_range.lean ====
abbrev S100000x256 : Shape := ⟨2, ![100000, 256]⟩
abbrev S100000 : Shape := ⟨1, ![100000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S256x1 : Shape := ⟨2, ![256, 1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x256 .f32) (main_arg1 : IVec S100000 32) (main_arg2 : FVec F S256x16 .f32) (main_arg3 : FVec F S16 .f32) (main_arg4 : FVec F S16x1 .f32) (main_arg5 : FVec F S1 .f32) (main_arg6 : FVec F S256x1 .f32) (main_arg7 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x256 : Shape := ⟨2, ![100000, 256]⟩
abbrev S100000 : Shape := ⟨1, ![100000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S256x1 : Shape := ⟨2, ![256, 1]⟩
abbrev S_ : Shape := ⟨0, ![]⟩
abbrev S256x32 : Shape := ⟨2, ![256, 32]⟩
abbrev S256 : Shape := ⟨1, ![256]⟩
abbrev S32x1 : Shape := ⟨2, ![32, 1]⟩
abbrev S2 : Shape := ⟨1, ![2]⟩
abbrev S100352 : Shape := ⟨1, ![100352]⟩
abbrev S7168x256 : Shape := ⟨2, ![7168, 256]⟩
abbrev S7168 : Shape := ⟨1, ![7168]⟩
abbrev S7168x32 : Shape := ⟨2, ![7168, 32]⟩
abbrev S32x7168 : Shape := ⟨2, ![32, 7168]⟩
abbrev S1x7168 : Shape := ⟨2, ![1, 7168]⟩
abbrev S512x513 : Shape := ⟨2, ![512, 513]⟩
abbrev S3136 : Shape := ⟨1, ![3136]⟩
abbrev S16x513 : Shape := ⟨2, ![16, 513]⟩
abbrev S1x16 : Shape := ⟨2, ![1, 16]⟩
abbrev S1x1 : Shape := ⟨2, ![1, 1]⟩
abbrev S1x512 : Shape := ⟨2, ![1, 512]⟩
abbrev S513 : Shape := ⟨1, ![513]⟩
abbrev S1x513 : Shape := ⟨2, ![1, 513]⟩
abbrev S512x1 : Shape := ⟨2, ![512, 1]⟩

abbrev nBuf : Table → Nat
  | .hbm => 44
  | .local .tc .vmem => 13
  | .local .scVector .vmem => 5
  | _ => 0

abbrev bufTy : (tb : Table) → Fin (nBuf tb) → BufTy
  | .hbm, ⟨0, _⟩ => ⟨S100000x256, .f32⟩
  | .hbm, ⟨1, _⟩ => ⟨S100000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S256x32, .f32⟩
  | .hbm, ⟨10, _⟩ => ⟨S_, .i32⟩
  | .hbm, ⟨11, _⟩ => ⟨S1, .i32⟩
  | .hbm, ⟨12, _⟩ => ⟨S256x32, .f32⟩
  | .hbm, ⟨13, _⟩ => ⟨S256, .f32⟩
  | .hbm, ⟨14, _⟩ => ⟨S_, .i32⟩
  | .hbm, ⟨15, _⟩ => ⟨S1, .i32⟩
  | .hbm, ⟨16, _⟩ => ⟨S256x32, .f32⟩
  | .hbm, ⟨17, _⟩ => ⟨S_, .f32⟩
  | .hbm, ⟨18, _⟩ => ⟨S32x1, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S32x1, .f32⟩
  | .hbm, ⟨25, _⟩ => ⟨S_, .f32⟩
  | .hbm, ⟨26, _⟩ => ⟨S32x1, .f32⟩
  | .hbm, ⟨27, _⟩ => ⟨S16, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S32x1, .f32⟩
  | .hbm, ⟨34, _⟩ => ⟨S100352, .f32⟩
  | .hbm, ⟨35, _⟩ => ⟨S100352, .f32⟩
  | .hbm, ⟨36, _⟩ => ⟨S_, .i32⟩
  | .hbm, ⟨37, _⟩ => ⟨S_, .i32⟩
  | .hbm, ⟨38, _⟩ => ⟨S100352, .i32⟩
  | .hbm, ⟨39, _⟩ => ⟨S512x513, .f32⟩
  | .hbm, ⟨40, _⟩ => ⟨S512x513, .f32⟩
  | .hbm, ⟨41, _⟩ => ⟨S1x1, .f32⟩
  | .hbm, ⟨42, _⟩ => ⟨S1x512, .f32⟩
  | .hbm, ⟨43, _⟩ => ⟨S512x1, .f32⟩
  | .local .tc .vmem, ⟨0, _⟩ => ⟨S7168x256, .f32⟩
  | .local .tc .vmem, ⟨1, _⟩ => ⟨S7168x256, .f32⟩
  | .local .tc .vmem, ⟨2, _⟩ => ⟨S256x32, .f32⟩
  | .local .tc .vmem, ⟨3, _⟩ => ⟨S32x1, .f32⟩
  | .local .tc .vmem, ⟨4, _⟩ => ⟨S32x1, .f32⟩
  | .local .tc .vmem, ⟨5, _⟩ => ⟨S7168, .f32⟩
  | .local .tc .vmem, ⟨6, _⟩ => ⟨S7168, .f32⟩
  | .local .tc .vmem, ⟨7, _⟩ => ⟨S7168, .f32⟩
  | .local .tc .vmem, ⟨8, _⟩ => ⟨S7168, .f32⟩
  | .local .tc .vmem, ⟨9, _⟩ => ⟨S512x513, .f32⟩
  | .local .tc .vmem, ⟨10, _⟩ => ⟨S512x513, .f32⟩
  | .local .tc .vmem, ⟨11, _⟩ => ⟨S1x1, .f32⟩
  | .local .tc .vmem, ⟨12, _⟩ => ⟨S1x512, .f32⟩
  | .local .scVector .vmem, ⟨0, _⟩ => ⟨S3136, .f32⟩
  | .local .scVector .vmem, ⟨1, _⟩ => ⟨S3136, .f32⟩
  | .local .scVector .vmem, ⟨2, _⟩ => ⟨S3136, .i32⟩
  | .local .scVector .vmem, ⟨3, _⟩ => ⟨S16x513, .f32⟩
  | .local .scVector .vmem, ⟨4, _⟩ => ⟨S16x513, .f32⟩
  | _, _ => ⟨S100000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_c_7 : Ref sig .tc := ⟨.hbm, 36, rfl⟩
abbrev main_call0_v0 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v17_0_scv : Ref sig .scVector := ⟨.hbm, 34, rfl⟩
abbrev main_v17_1_scv : Ref sig .scVector := ⟨.hbm, 35, rfl⟩
abbrev main_v18_scv : Ref sig .scVector := ⟨.hbm, 38, rfl⟩
abbrev main_v19_0_scv : Ref sig .scVector := ⟨.hbm, 39, rfl⟩
abbrev main_v19_1_scv : Ref sig .scVector := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc2_sem0_0 : DmaSem sig := 14
abbrev cc2_sem1_0 : DmaSem sig := 15
abbrev cc2_sem2_0 : DmaSem sig := 16
abbrev cc2_sem3_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S7168x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  ![v2.toNat]
@[reducible] def k1_t1_loop : Scf.Loop 32 :=
  let c0_i32_0 : BitVec 32 := 0#32
  let c16_i32_1 : BitVec 32 := 16#32
  let v10 : BitVec 32 := Scalar.addi c0_i32_0 c16_i32_1
  let c1_i32 : BitVec 32 := 1#32
  ⟨c0_i32_0, v10, c1_i32⟩
@[reducible] def k1_t2_loop : Scf.Loop 32 :=
  let c0_i32_9 : BitVec 32 := 0#32
  let c32_i32 : BitVec 32 := 32#32
  let v21 : BitVec 32 := Scalar.addi c0_i32_9 c32_i32
  let c1_i32_10 : BitVec 32 := 1#32
  ⟨c0_i32_9, v21, c1_i32_10⟩
def k1_off2 (k1_t1 : Fin k1_t1_loop.trips) (k1_t2 : Fin k1_t2_loop.trips) : Fin 2 → Nat :=
  let c0_i32_0 : BitVec 32 := 0#32
  let c1_i32 : BitVec 32 := 1#32
  let arg15 : BitVec 32 := Scf.iv c0_i32_0 c1_i32 k1_t1
  let v23 : Index := Scalar.indexCast arg15
  let c0_i32_9 : BitVec 32 := 0#32
  let c1_i32_10 : BitVec 32 := 1#32
  let arg16 : BitVec 32 := Scf.iv c0_i32_9 c1_i32_10 k1_t2
  let c16_i32_12 : BitVec 32 := 16#32
  let v22 : BitVec 32 := Scalar.muli arg16 c16_i32_12
  let v24 : Index := Scalar.indexCast v22
  ![v23.toNat, v24.toNat]
@[reducible] def k1_t3_loop : Scf.Loop 32 :=
  let c0_i32_4 : BitVec 32 := 0#32
  let c14_i32 : BitVec 32 := 14#32
  let v18 : BitVec 32 := Scalar.addi c0_i32_4 c14_i32
  let c1_i32_5 : BitVec 32 := 1#32
  ⟨c0_i32_4, v18, c1_i32_5⟩
def k1_off3 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_9 : BitVec 32 := 14#32
  let v21 : BitVec 32 := Scalar.muli arg15 c14_i32_9
  let c0_i32_10 : BitVec 32 := 0#32
  let v22 : BitVec 32 := Scalar.addi v21 c0_i32_10
  let c16_i32_11 : BitVec 32 := 16#32
  let v23 : BitVec 32 := Scalar.muli v22 c16_i32_11
  let v24 : Index := Scalar.indexCast v23
  ![v24.toNat]

def k1_chk1 (v17 : IVec S16 32) (v29 : IVec S16 32) : Prop :=
  (∀ a x, ((![v17, v29] : Fin 2 → IVec S16 32) a x).toNat < S16x513.size a) ∧
  (∀ a x, ((![v17, v29] : Fin 2 → IVec S16 32) a x).toNat < S16x513.size a)
theorem k1_idx1_inb : ∀ (v17 : IVec S16 32) (v29 : IVec S16 32) (k1_hw1 : k1_chk1 v17 v29), ∀ a x, ((![v17, v29] : Fin 2 → IVec S16 32) a x).toNat < S16x513.size a := fun v17 v29 k1_hw1 => k1_hw1.1
theorem k1_idx2_inb : ∀ (v17 : IVec S16 32) (v29 : IVec S16 32) (k1_hw1 : k1_chk1 v17 v29), ∀ a x, ((![v17, v29] : Fin 2 → IVec S16 32) a x).toNat < S16x513.size a := fun v17 v29 k1_hw1 => k1_hw1.2
def k1_off4 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_12 : BitVec 32 := 14#32
  let v32 : BitVec 32 := Scalar.muli arg15 c14_i32_12
  let c1_i32_13 : BitVec 32 := 1#32
  let v33 : BitVec 32 := Scalar.addi v32 c1_i32_13
  let c16_i32_14 : BitVec 32 := 16#32
  let v34 : BitVec 32 := Scalar.muli v33 c16_i32_14
  let v35 : Index := Scalar.indexCast v34
  ![v35.toNat]

def k1_chk2 (v17 : IVec S16 32) (v40 : IVec S16 32) : Prop :=
  (∀ a x, ((![v17, v40] : Fin 2 → IVec S16 32) a x).toNat < S16x513.size a) ∧
  (∀ a x, ((![v17, v40] : Fin 2 → IVec S16 32) a x).toNat < S16x513.size a)
theorem k1_idx3_inb : ∀ (v17 : IVec S16 32) (v40 : IVec S16 32) (k1_hw2 : k1_chk2 v17 v40), ∀ a x, ((![v17, v40] : Fin 2 → IVec S16 32) a x).toNat < S16x513.size a := fun v17 v40 k1_hw2 => k1_hw2.1
theorem k1_idx4_inb : ∀ (v17 : IVec S16 32) (v40 : IVec S16 32) (k1_hw2 : k1_chk2 v17 v40), ∀ a x, ((![v17, v40] : Fin 2 → IVec S16 32) a x).toNat < S16x513.size a := fun v17 v40 k1_hw2 => k1_hw2.2
def k1_off5 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_15 : BitVec 32 := 14#32
  let v43 : BitVec 32 := Scalar.muli arg15 c14_i32_15
  let c2_i32 : BitVec 32 := 2#32
  let v44 : BitVec 32 := Scalar.addi v43 c2_i32
  let c16_i32_16 : BitVec 32 := 16#32
  let v45 : BitVec 32 := Scalar.muli v44 c16_i32_16
  let v46 : Index := Scalar.indexCast v45
  ![v46.toNat]

def k1_chk3 (v17 : IVec S16 32) (v51 : IVec S16 32) : Prop :=
  (∀ a x, ((![v17, v51] : Fin 2 → IVec S16 32) a x).toNat < S16x513.size a) ∧
  (∀ a x, ((![v17, v51] : Fin 2 → IVec S16 32) a x).toNat < S16x513.size a)
theorem k1_idx5_inb : ∀ (v17 : IVec S16 32) (v51 : IVec S16 32) (k1_hw3 : k1_chk3 v17 v51), ∀ a x, ((![v17, v51] : Fin 2 → IVec S16 32) a x).toNat < S16x513.size a := fun v17 v51 k1_hw3 => k1_hw3.1
theorem k1_idx6_inb : ∀ (v17 : IVec S16 32) (v51 : IVec S16 32) (k1_hw3 : k1_chk3 v17 v51), ∀ a x, ((![v17, v51] : Fin 2 → IVec S16 32) a x).toNat < S16x513.size a := fun v17 v51 k1_hw3 => k1_hw3.2
def k1_off6 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_17 : BitVec 32 := 14#32
  let v54 : BitVec 32 := Scalar.muli arg15 c14_i32_17
  let c3_i32 : BitVec 32 := 3#32
  let v55 : BitVec 32 := Scalar.addi v54 c3_i32
  let c16_i32_18 : BitVec 32 := 16#32
  let v56 : BitVec 32 := Scalar.muli v55 c16_i32_18
  let v57 : Index := Scalar.indexCast v56
  ![v57.toNat]

def k1_chk4 (v17 : IVec S16 32) (v62 : IVec S16 32) : Prop :=
  (∀ a x, ((![v17, v62] : Fin 2 → IVec S16 32) a x).toNat < S16x513.size a) ∧
  (∀ a x, ((![v17, v62] : Fin 2 → IVec S16 32) a x).toNat < S16x513.size a)
theorem k1_idx7_inb : ∀ (v17 : IVec S16 32) (v62 : IVec S16 32) (k1_hw4 : k1_chk4 v17 v62), ∀ a x, ((![v17, v62] : Fin 2 → IVec S16 32) a x).toNat < S16x513.size a := fun v17 v62 k1_hw4 => k1_hw4.1
theorem k1_idx8_inb : ∀ (v17 : IVec S16 32) (v62 : IVec S16 32) (k1_hw4 : k1_chk4 v17 v62), ∀ a x, ((![v17, v62] : Fin 2 → IVec S16 32) a x).toNat < S16x513.size a := fun v17 v62 k1_hw4 => k1_hw4.2
def k1_off7 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_19 : BitVec 32 := 14#32
  let v65 : BitVec 32 := Scalar.muli arg15 c14_i32_19
  let c4_i32 : BitVec 32 := 4#32
  let v66 : BitVec 32 := Scalar.addi v65 c4_i32
  let c16_i32_20 : BitVec 32 := 16#32
  let v67 : BitVec 32 := Scalar.muli v66 c16_i32_20
  let v68 : Index := Scalar.indexCast v67
  ![v68.toNat]

def k1_chk5 (v17 : IVec S16 32) (v73 : IVec S16 32) : Prop :=
  (∀ a x, ((![v17, v73] : Fin 2 → IVec S16 32) a x).toNat < S16x513.size a) ∧
  (∀ a x, ((![v17, v73] : Fin 2 → IVec S16 32) a x).toNat < S16x513.size a)
theorem k1_idx9_inb : ∀ (v17 : IVec S16 32) (v73 : IVec S16 32) (k1_hw5 : k1_chk5 v17 v73), ∀ a x, ((![v17, v73] : Fin 2 → IVec S16 32) a x).toNat < S16x513.size a := fun v17 v73 k1_hw5 => k1_hw5.1
theorem k1_idx10_inb : ∀ (v17 : IVec S16 32) (v73 : IVec S16 32) (k1_hw5 : k1_chk5 v17 v73), ∀ a x, ((![v17, v73] : Fin 2 → IVec S16 32) a x).toNat < S16x513.size a := fun v17 v73 k1_hw5 => k1_hw5.2
def k1_off8 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_21 : BitVec 32 := 14#32
  let v76 : BitVec 32 := Scalar.muli arg15 c14_i32_21
  let c5_i32 : BitVec 32 := 5#32
  let v77 : BitVec 32 := Scalar.addi v76 c5_i32
  let c16_i32_22 : BitVec 32 := 16#32
  let v78 : BitVec 32 := Scalar.muli v77 c16_i32_22
  let v79 : Index := Scalar.indexCast v78
  ![v79.toNat]

def k1_chk6 (v17 : IVec S16 32) (v84 : IVec S16 32) : Prop :=
  (∀ a x, ((![v17, v84] : Fin 2 → IVec S16 32) a x).toNat < S16x513.size a) ∧
  (∀ a x, ((![v17, v84] : Fin 2 → IVec S16 32) a x).toNat < S16x513.size a)
theorem k1_idx11_inb : ∀ (v17 : IVec S16 32) (v84 : IVec S16 32) (k1_hw6 : k1_chk6 v17 v84), ∀ a x, ((![v17, v84] : Fin 2 → IVec S16 32) a x).toNat < S16x513.size a := fun v17 v84 k1_hw6 => k1_hw6.1
theorem k1_idx12_inb : ∀ (v17 : IVec S16 32) (v84 : IVec S16 32) (k1_hw6 : k1_chk6 v17 v84), ∀ a x, ((![v17, v84] : Fin 2 → IVec S16 32) a x).toNat < S16x513.size a := fun v17 v84 k1_hw6 => k1_hw6.2
def k1_off9 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_23 : BitVec 32 := 14#32
  let v87 : BitVec 32 := Scalar.muli arg15 c14_i32_23
  let c6_i32 : BitVec 32 := 6#32
  let v88 : BitVec 32 := Scalar.addi v87 c6_i32
  let c16_i32_24 : BitVec 32 := 16#32
  let v89 : BitVec 32 := Scalar.muli v88 c16_i32_24
  let v90 : Index := Scalar.indexCast v89
  ![v90.toNat]

def k1_chk7 (v17 : IVec S16 32) (v95 : IVec S16 32) : Prop :=
  (∀ a x, ((![v17, v95] : Fin 2 → IVec S16 32) a x).toNat < S16x513.size a) ∧
  (∀ a x, ((![v17, v95] : Fin 2 → IVec S16 32) a x).toNat < S16x513.size a)
theorem k1_idx13_inb : ∀ (v17 : IVec S16 32) (v95 : IVec S16 32) (k1_hw7 : k1_chk7 v17 v95), ∀ a x, ((![v17, v95] : Fin 2 → IVec S16 32) a x).toNat < S16x513.size a := fun v17 v95 k1_hw7 => k1_hw7.1
theorem k1_idx14_inb : ∀ (v17 : IVec S16 32) (v95 : IVec S16 32) (k1_hw7 : k1_chk7 v17 v95), ∀ a x, ((![v17, v95] : Fin 2 → IVec S16 32) a x).toNat < S16x513.size a := fun v17 v95 k1_hw7 => k1_hw7.2
def k1_off10 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_25 : BitVec 32 := 14#32
  let v98 : BitVec 32 := Scalar.muli arg15 c14_i32_25
  let c7_i32 : BitVec 32 := 7#32
  let v99 : BitVec 32 := Scalar.addi v98 c7_i32
  let c16_i32_26 : BitVec 32 := 16#32
  let v100 : BitVec 32 := Scalar.muli v99 c16_i32_26
  let v101 : Index := Scalar.indexCast v100
  ![v101.toNat]

def k1_chk8 (v17 : IVec S16 32) (v106 : IVec S16 32) : Prop :=
  (∀ a x, ((![v17, v106] : Fin 2 → IVec S16 32) a x).toNat < S16x513.size a) ∧
  (∀ a x, ((![v17, v106] : Fin 2 → IVec S16 32) a x).toNat < S16x513.size a)
theorem k1_idx15_inb : ∀ (v17 : IVec S16 32) (v106 : IVec S16 32) (k1_hw8 : k1_chk8 v17 v106), ∀ a x, ((![v17, v106] : Fin 2 → IVec S16 32) a x).toNat < S16x513.size a := fun v17 v106 k1_hw8 => k1_hw8.1
theorem k1_idx16_inb : ∀ (v17 : IVec S16 32) (v106 : IVec S16 32) (k1_hw8 : k1_chk8 v17 v106), ∀ a x, ((![v17, v106] : Fin 2 → IVec S16 32) a x).toNat < S16x513.size a := fun v17 v106 k1_hw8 => k1_hw8.2
def k1_off11 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_27 : BitVec 32 := 14#32
  let v109 : BitVec 32 := Scalar.muli arg15 c14_i32_27
  let c8_i32 : BitVec 32 := 8#32
  let v110 : BitVec 32 := Scalar.addi v109 c8_i32
  let c16_i32_28 : BitVec 32 := 16#32
  let v111 : BitVec 32 := Scalar.muli v110 c16_i32_28
  let v112 : Index := Scalar.indexCast v111
  ![v112.toNat]

def k1_chk9 (v17 : IVec S16 32) (v117 : IVec S16 32) : Prop :=
  (∀ a x, ((![v17, v117] : Fin 2 → IVec S16 32) a x).toNat < S16x513.size a) ∧
  (∀ a x, ((![v17, v117] : Fin 2 → IVec S16 32) a x).toNat < S16x513.size a)
theorem k1_idx17_inb : ∀ (v17 : IVec S16 32) (v117 : IVec S16 32) (k1_hw9 : k1_chk9 v17 v117), ∀ a x, ((![v17, v117] : Fin 2 → IVec S16 32) a x).toNat < S16x513.size a := fun v17 v117 k1_hw9 => k1_hw9.1
theorem k1_idx18_inb : ∀ (v17 : IVec S16 32) (v117 : IVec S16 32) (k1_hw9 : k1_chk9 v17 v117), ∀ a x, ((![v17, v117] : Fin 2 → IVec S16 32) a x).toNat < S16x513.size a := fun v17 v117 k1_hw9 => k1_hw9.2
def k1_off12 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_29 : BitVec 32 := 14#32
  let v120 : BitVec 32 := Scalar.muli arg15 c14_i32_29
  let c9_i32 : BitVec 32 := 9#32
  let v121 : BitVec 32 := Scalar.addi v120 c9_i32
  let c16_i32_30 : BitVec 32 := 16#32
  let v122 : BitVec 32 := Scalar.muli v121 c16_i32_30
  let v123 : Index := Scalar.indexCast v122
  ![v123.toNat]

def k1_chk10 (v17 : IVec S16 32) (v128 : IVec S16 32) : Prop :=
  (∀ a x, ((![v17, v128] : Fin 2 → IVec S16 32) a x).toNat < S16x513.size a) ∧
  (∀ a x, ((![v17, v128] : Fin 2 → IVec S16 32) a x).toNat < S16x513.size a)
theorem k1_idx19_inb : ∀ (v17 : IVec S16 32) (v128 : IVec S16 32) (k1_hw10 : k1_chk10 v17 v128), ∀ a x, ((![v17, v128] : Fin 2 → IVec S16 32) a x).toNat < S16x513.size a := fun v17 v128 k1_hw10 => k1_hw10.1
theorem k1_idx20_inb : ∀ (v17 : IVec S16 32) (v128 : IVec S16 32) (k1_hw10 : k1_chk10 v17 v128), ∀ a x, ((![v17, v128] : Fin 2 → IVec S16 32) a x).toNat < S16x513.size a := fun v17 v128 k1_hw10 => k1_hw10.2
def k1_off13 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_31 : BitVec 32 := 14#32
  let v131 : BitVec 32 := Scalar.muli arg15 c14_i32_31
  let c10_i32 : BitVec 32 := 10#32
  let v132 : BitVec 32 := Scalar.addi v131 c10_i32
  let c16_i32_32 : BitVec 32 := 16#32
  let v133 : BitVec 32 := Scalar.muli v132 c16_i32_32
  let v134 : Index := Scalar.indexCast v133
  ![v134.toNat]

def k1_chk11 (v17 : IVec S16 32) (v139 : IVec S16 32) : Prop :=
  (∀ a x, ((![v17, v139] : Fin 2 → IVec S16 32) a x).toNat < S16x513.size a) ∧
  (∀ a x, ((![v17, v139] : Fin 2 → IVec S16 32) a x).toNat < S16x513.size a)
theorem k1_idx21_inb : ∀ (v17 : IVec S16 32) (v139 : IVec S16 32) (k1_hw11 : k1_chk11 v17 v139), ∀ a x, ((![v17, v139] : Fin 2 → IVec S16 32) a x).toNat < S16x513.size a := fun v17 v139 k1_hw11 => k1_hw11.1
theorem k1_idx22_inb : ∀ (v17 : IVec S16 32) (v139 : IVec S16 32) (k1_hw11 : k1_chk11 v17 v139), ∀ a x, ((![v17, v139] : Fin 2 → IVec S16 32) a x).toNat < S16x513.size a := fun v17 v139 k1_hw11 => k1_hw11.2
def k1_off14 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_33 : BitVec 32 := 14#32
  let v142 : BitVec 32 := Scalar.muli arg15 c14_i32_33
  let c11_i32 : BitVec 32 := 11#32
  let v143 : BitVec 32 := Scalar.addi v142 c11_i32
  let c16_i32_34 : BitVec 32 := 16#32
  let v144 : BitVec 32 := Scalar.muli v143 c16_i32_34
  let v145 : Index := Scalar.indexCast v144
  ![v145.toNat]

def k1_chk12 (v17 : IVec S16 32) (v150 : IVec S16 32) : Prop :=
  (∀ a x, ((![v17, v150] : Fin 2 → IVec S16 32) a x).toNat < S16x513.size a) ∧
  (∀ a x, ((![v17, v150] : Fin 2 → IVec S16 32) a x).toNat < S16x513.size a)
theorem k1_idx23_inb : ∀ (v17 : IVec S16 32) (v150 : IVec S16 32) (k1_hw12 : k1_chk12 v17 v150), ∀ a x, ((![v17, v150] : Fin 2 → IVec S16 32) a x).toNat < S16x513.size a := fun v17 v150 k1_hw12 => k1_hw12.1
theorem k1_idx24_inb : ∀ (v17 : IVec S16 32) (v150 : IVec S16 32) (k1_hw12 : k1_chk12 v17 v150), ∀ a x, ((![v17, v150] : Fin 2 → IVec S16 32) a x).toNat < S16x513.size a := fun v17 v150 k1_hw12 => k1_hw12.2
def k1_off15 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_35 : BitVec 32 := 14#32
  let v153 : BitVec 32 := Scalar.muli arg15 c14_i32_35
  let c12_i32 : BitVec 32 := 12#32
  let v154 : BitVec 32 := Scalar.addi v153 c12_i32
  let c16_i32_36 : BitVec 32 := 16#32
  let v155 : BitVec 32 := Scalar.muli v154 c16_i32_36
  let v156 : Index := Scalar.indexCast v155
  ![v156.toNat]

def k1_chk13 (v17 : IVec S16 32) (v161 : IVec S16 32) : Prop :=
  (∀ a x, ((![v17, v161] : Fin 2 → IVec S16 32) a x).toNat < S16x513.size a) ∧
  (∀ a x, ((![v17, v161] : Fin 2 → IVec S16 32) a x).toNat < S16x513.size a)
theorem k1_idx25_inb : ∀ (v17 : IVec S16 32) (v161 : IVec S16 32) (k1_hw13 : k1_chk13 v17 v161), ∀ a x, ((![v17, v161] : Fin 2 → IVec S16 32) a x).toNat < S16x513.size a := fun v17 v161 k1_hw13 => k1_hw13.1
theorem k1_idx26_inb : ∀ (v17 : IVec S16 32) (v161 : IVec S16 32) (k1_hw13 : k1_chk13 v17 v161), ∀ a x, ((![v17, v161] : Fin 2 → IVec S16 32) a x).toNat < S16x513.size a := fun v17 v161 k1_hw13 => k1_hw13.2
def k1_off16 (k1_t3 : Fin k1_t3_loop.trips) : Fin 1 → Nat :=
  let c0_i32_4 : BitVec 32 := 0#32
  let c1_i32_5 : BitVec 32 := 1#32
  let arg15 : BitVec 32 := Scf.iv c0_i32_4 c1_i32_5 k1_t3
  let c14_i32_37 : BitVec 32 := 14#32
  let v164 : BitVec 32 := Scalar.muli arg15 c14_i32_37
  let c13_i32 : BitVec 32 := 13#32
  let v165 : BitVec 32 := Scalar.addi v164 c13_i32
  let c16_i32_38 : BitVec 32 := 16#32
  let v166 : BitVec 32 := Scalar.muli v165 c16_i32_38
  let v167 : Index := Scalar.indexCast v166
  ![v167.toNat]

def k1_chk14 (v17 : IVec S16 32) (v172 : IVec S16 32) : Prop :=
  (∀ a x, ((![v17, v172] : Fin 2 → IVec S16 32) a x).toNat < S16x513.size a) ∧
  (∀ a x, ((![v17, v172] : Fin 2 → IVec S16 32) a x).toNat < S16x513.size a)
theorem k1_idx27_inb : ∀ (v17 : IVec S16 32) (v172 : IVec S16 32) (k1_hw14 : k1_chk14 v17 v172), ∀ a x, ((![v17, v172] : Fin 2 → IVec S16 32) a x).toNat < S16x513.size a := fun v17 v172 k1_hw14 => k1_hw14.1
theorem k1_idx28_inb : ∀ (v17 : IVec S16 32) (v172 : IVec S16 32) (k1_hw14 : k1_chk14 v17 v172), ∀ a x, ((![v17, v172] : Fin 2 → IVec S16 32) a x).toNat < S16x513.size a := fun v17 v172 k1_hw14 => k1_hw14.2
def k1_off17 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_7 : BitVec 32 := 16#32
  let v19 : BitVec 32 := Scalar.muli v1 c16_i32_7
  let c0_i32_9_r0 : BitVec 32 := 0#32
  ![v19.toNat, 0]
abbrev grid2 : Pipeline.Grid := .none

abbrev stage2_0 : Fin 1 → Memref sig .tc .vmem S512x513 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x513 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S100000x256 : Shape := ⟨2, ![100000, 256]⟩
abbrev S100000 : Shape := ⟨1, ![100000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S256x1 : Shape := ⟨2, ![256, 1]⟩
abbrev S100000x16 : Shape := ⟨2, ![100000, 16]⟩
abbrev S1x16 : Shape := ⟨2, ![1, 16]⟩
abbrev S_ : Shape := ⟨0, ![]⟩
abbrev S100000x1 : Shape := ⟨2, ![100000, 1]⟩
abbrev S1x1 : Shape := ⟨2, ![1, 1]⟩
abbrev S1x100000 : Shape := ⟨2, ![1, 100000]⟩
abbrev S512 : Shape := ⟨1, ![512]⟩
abbrev S512x1 : Shape := ⟨2, ![512, 1]⟩
abbrev S512x100000 : Shape := ⟨2, ![512, 100000]⟩
abbrev S512x256 : Shape := ⟨2, ![512, 256]⟩

abbrev nBuf : Space → Nat
  | .hbm => 94
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S256x1, .f32⟩
  | .hbm, ⟨7, _⟩ => ⟨S1, .f32⟩
  | .hbm, ⟨8, _⟩ => ⟨S100000x16, .f32⟩
  | .hbm, ⟨9, _⟩ => ⟨S1x16, .f32⟩
  | .hbm, ⟨10, _⟩ => ⟨S100000x16, .f32⟩
  | .hbm, ⟨11, _⟩ => ⟨S100000x16, .f32⟩
  | .hbm, ⟨12, _⟩ => ⟨S_, .f32⟩
  | .hbm, ⟨13, _⟩ => ⟨S100000x16, .f32⟩
  | .hbm, ⟨14, _⟩ => ⟨S100000x16, .f32⟩
  | .hbm, ⟨15, _⟩ => ⟨S100000x1, .f32⟩
  | .hbm, ⟨16, _⟩ => ⟨S1x1, .f32⟩
  | .hbm, ⟨17, _⟩ => ⟨S100000x1, .f32⟩
  | .hbm, ⟨18, _⟩ => ⟨S100000x1, .f32⟩
  | .hbm, ⟨19, _⟩ => ⟨S100000, .f32⟩
  | .hbm, ⟨20, _⟩ => ⟨S1x100000, .i32⟩
  | .hbm, ⟨21, _⟩ => ⟨S512, .i32⟩
  | .hbm, ⟨22, _⟩ => ⟨S512x1, .i32⟩
  | .hbm, ⟨23, _⟩ => ⟨S512x100000, .i32⟩
  | .hbm, ⟨24, _⟩ => ⟨S512x100000, .i32⟩
  | .hbm, ⟨25, _⟩ => ⟨S512x100000, .i1⟩
  | .hbm, ⟨26, _⟩ => ⟨S1x100000, .f32⟩
  | .hbm, ⟨27, _⟩ => ⟨S_, .f32⟩
  | .hbm, ⟨28, _⟩ => ⟨S_, .f32⟩
  | .hbm, ⟨29, _⟩ => ⟨S512x100000, .f32⟩
  | .hbm, ⟨30, _⟩ => ⟨S512x100000, .f32⟩
  | .hbm, ⟨31, _⟩ => ⟨S512x100000, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .i1⟩
  | .hbm, ⟨38, _⟩ => ⟨S_, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S_, .i32⟩
  | .hbm, ⟨46, _⟩ => ⟨S100000, .i32⟩
  | .hbm, ⟨47, _⟩ => ⟨S100000, .i32⟩
  | .hbm, ⟨48, _⟩ => ⟨S100000, .i32⟩
  | .hbm, ⟨49, _⟩ => ⟨S100000x1, .i32⟩
  | .hbm, ⟨50, _⟩ => ⟨S100000, .f32⟩
  | .hbm, ⟨51, _⟩ => ⟨S100000, .f32⟩
  | .hbm, ⟨52, _⟩ => ⟨S100000, .f32⟩
  | .hbm, ⟨53, _⟩ => ⟨S_, .f32⟩
  | .hbm, ⟨54, _⟩ => ⟨S512, .f32⟩
  | .hbm, ⟨55, _⟩ => ⟨S100000x1, .i32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S_, .i32⟩
  | .hbm, ⟨64, _⟩ => ⟨S100000, .i32⟩
  | .hbm, ⟨65, _⟩ => ⟨S100000, .i1⟩
  | .hbm, ⟨66, _⟩ => ⟨S_, .i32⟩
  | .hbm, ⟨67, _⟩ => ⟨S100000, .i32⟩
  | .hbm, ⟨68, _⟩ => ⟨S100000, .i32⟩
  | .hbm, ⟨69, _⟩ => ⟨S100000, .i32⟩
  | .hbm, ⟨70, _⟩ => ⟨S100000x1, .i32⟩
  | .hbm, ⟨71, _⟩ => ⟨S100000, .f32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S100000, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x256, .f32⟩
  | .hbm, ⟨85, _⟩ => ⟨S100000x256, .f32⟩
  | .hbm, ⟨86, _⟩ => ⟨S_, .f32⟩
  | .hbm, ⟨87, _⟩ => ⟨S512x256, .f32⟩
  | .hbm, ⟨88, _⟩ => ⟨S100000x1, .i32⟩
  | .hbm, ⟨89, _⟩ => ⟨S512x256, .f32⟩
  | .hbm, ⟨90, _⟩ => ⟨S512x1, .f32⟩
  | .hbm, ⟨91, _⟩ => ⟨S1x1, .f32⟩
  | .hbm, ⟨92, _⟩ => ⟨S512x1, .f32⟩
  | .hbm, ⟨93, _⟩ => ⟨S512x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Proof.Same.lean ====
/-
  The printed kernel and its ideal form are the same program at the hardware's floats, where the named constant reads
  as the number it stands for: what is proved of the one holds of the other.
-/
module

public import proofs.«01_k».proof.Defs
public import proofs.«01_k».proof.Proof.Gen.Kernel
public import proofs.«01_k».proof.Proof.Gen.KernelIdeal

@[expose] public section

namespace Cert.Proof
open Idealize.ShloMosaic

/-- At the hardware's floats a named constant is the number printed for it. -/
@[instance_reducible] noncomputable def namedBits : Named Bits where
  named _ _ {_} bits := Scalar.ofBits _ bits
attribute [local instance] namedBits
/-- The two programs name the same buffers and semaphores. -/
theorem same_sig : Cert.Kernel.sig = Cert.KernelIdeal.sig := rfl

variable [Cert.Kernel.Facts] [Cert.KernelIdeal.Facts]
/-- … have the same routines, -/
theorem same_L : Cert.Kernel.Λ₀ = Cert.KernelIdeal.Λ₀ := rfl
/-- … the same pipelines, -/
theorem same_pcfgs : Cert.Kernel.pcfgs (F := Bits) = Cert.KernelIdeal.pcfgs (F := Bits) := rfl

/-- … the same TensorCore routines, -/
theorem same_tc (ℓ : Cert.Kernel.Λ₀.Label) (a) : Cert.Kernel.defs₀ (F := Bits) .tc ℓ a = Cert.KernelIdeal.defs₀ (F := Bits) .tc ℓ a := by
  match ℓ, a with
    | 0, (t, s) => rfl
    | 1, _ => rfl
    | 2, (t, s) => rfl
/-- … the same routines of the SparseCore's sequencers, -/
theorem same_sc (c) (ℓ : Cert.Kernel.Λ₀.Label) (a) : Cert.Kernel.defs₀ (F := Bits) (.scScalar c) ℓ a = Cert.KernelIdeal.defs₀ (F := Bits) (.scScalar c) ℓ a := by
  match ℓ, a with
    | 0, _ => rfl
    | 1, _ => rfl
    | 2, _ => rfl
/-- … and of its tiles; -/
theorem same_sv (c s) (ℓ : Cert.Kernel.Λ₀.Label) (a) : Cert.Kernel.defs₀ (F := Bits) (.scVector c s) ℓ a = Cert.KernelIdeal.defs₀ (F := Bits) (.scVector c s) ℓ a := by
  match ℓ, a with
    | 0, _ => rfl
    | 1, _ => rfl
    | 2, _ => rfl
/-- so the routines are the same, -/
theorem same_defs0 : Cert.Kernel.defs₀ (F := Bits) = Cert.KernelIdeal.defs₀ (F := Bits) := by
  funext p ℓ a
  cases p with
  | tc => exact same_tc ℓ a
  | scScalar c => exact same_sc c ℓ a
  | scVector c s => exact same_sv c s ℓ a
/-- and with them the definitions the launch runs. -/
theorem same_defs : Cert.Kernel.defs (F := Bits) = Cert.KernelIdeal.defs (F := Bits) := by
  have h := same_defs0
  show Cert.Kernel.sc.defs (Pipeline.defs Cert.Kernel.pcfgs Cert.Kernel.defs₀) = _
  rw [h]; rfl

/-- The launch starts the same threads. -/
theorem same_threads : Cert.Kernel.threads (F := Bits) = Cert.KernelIdeal.threads (F := Bits) := rfl

end Cert.Proof
-- ==== Proof.Pre.lean ====
/-
  What the two preconditions say: every id is a segment's number, and every float argument is finite.
-/
module

public import proofs.«01_k».proof.Proof.Same
public import Idealize.ShloMosaic.Lib.ReduceAll
public import Idealize.ShloMosaic.Lib.KernelVsHost

@[expose] public section

noncomputable section

namespace Cert.Proof

open Idealize.ShloMosaic

/-- A float array whose values are all finite. -/
def Finite {s : Shape} (x : FVec Ideal s .f32) : Prop := ∀ i, (x i : EReal) ≠ ⊤ ∧ (x i : EReal) ≠ ⊥

/-- An array of ids that are all at least 0 and below 512. -/
def IdsIn (ids : IVec (⟨1, ![100000]⟩ : Shape) 32) : Prop := ∀ i, (ids i).toNat < 512

/-- A word at least 0 and below 512 as a signed number is below 512. -/
theorem toNat_lt_of_signed {w : BitVec 32} (h : IntOp.andi (IntOp.cmpi .sge w 0#32) (IntOp.cmpi .slt w 512#32) = 1#1) : w.toNat < 512 := by
  obtain ⟨h1, h2⟩ := IntOp.andi_eq_one.1 h
  have h1 := IntOp.cmpi_sge.1 h1
  have h2 := IntOp.cmpi_slt.1 h2
  rw [show (0#32 : BitVec 32).toInt = 0 from rfl] at h1
  rw [show (512#32 : BitVec 32).toInt = 512 from rfl] at h2
  rw [BitVec.toInt_eq_toNat_cond] at h1 h2
  split at h1 <;> split at h2 <;> omega

/-- A value whose magnitude compares below +∞ is neither infinity. -/
theorem finite_of_olt {x : Ideal .f32} (h : FloatOps.cmpf .olt (FloatOps.hostAbsf x) (FloatOps.ofBits (F := Ideal) .f32 0x7F800000#32) = 1#1) :
    (x : EReal) ≠ ⊤ ∧ (x : EReal) ≠ ⊥ := by
  rw [← Ideal.xori_weird_eq_hostAbsf_olt_inf] at h
  replace h : IntOp.xori (BitVec.ofBool (decide ((x : EReal) = ⊤ ∨ (x : EReal) = ⊥))) 1#1 = 1#1 := h
  by_contra hc
  have hx : (x : EReal) = ⊤ ∨ (x : EReal) = ⊥ := by tauto
  rw [decide_eq_true hx] at h
  exact absurd h (by decide)

section
variable [Cert.Pre_ids_in_range.Facts] [Cert.Pre_finite_and_in_range.Facts]

/-- The range predicate, read back. -/
theorem ids_of_pre {F : FTy → Type} [FloatOps F] {a0 a1 a2 a3 a4 a5 a6 a7} (h : Cert.Pre_ids_in_range.fn (F := F) a0 a1 a2 a3 a4 a5 a6 a7 = fun _ => 1#1) : IdsIn a1 := fun i =>
  haveI : Subsingleton Cert.Pre_ids_in_range.S_.Idx := inferInstanceAs (Subsingleton (∀ a : Fin 0, _))
  toNat_lt_of_signed (Host.reduce_andi_all _ _ _ _ _ (congrFun h fun a => nomatch a) i)

/-- The finiteness predicate, read back. -/
theorem all_of_pre {a0 a1 a2 a3 a4 a5 a6 a7} (h : Cert.Pre_finite_and_in_range.fn (F := Ideal) a0 a1 a2 a3 a4 a5 a6 a7 = fun _ => 1#1) :
    IdsIn a1 ∧ Finite a0 ∧ Finite a5 ∧ Finite a6 := by
  haveI : Subsingleton Cert.Pre_finite_and_in_range.S_.Idx := inferInstanceAs (Subsingleton (∀ a : Fin 0, _))
  have e := congrFun h fun a => nomatch a
  obtain ⟨e, h6⟩ := IntOp.andi_eq_one.1 e
  obtain ⟨e, h5⟩ := IntOp.andi_eq_one.1 e
  obtain ⟨e, h0⟩ := IntOp.andi_eq_one.1 e
  exact ⟨fun i => toNat_lt_of_signed (Host.reduce_andi_all _ _ _ _ _ e i), fun i => finite_of_olt (Host.reduce_andi_all _ _ _ _ _ h0 i),
    fun i => finite_of_olt (Host.reduce_andi_all _ _ _ _ _ h5 i), fun i => finite_of_olt (Host.reduce_andi_all _ _ _ _ _ h6 i)⟩
end

end Cert.Proof

end
-- ==== Proof.Setup.lean ====
/-
  The program as the SparseCore launch theorem sees it: its labels, its calls, its body table, the resource algebra
  its run is told in (the handshakes' rounds, the two TensorCore regions' rounds, the transfers' counters), and the
  arrays by name.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section Program
variable [FloatOps F] [Named F]

/-- The labels of the program's own calls: the bodies and the two pipelined regions. -/
abbrev ΛP : Labels := Pipeline.Sig Λ₀ (Fin 2) fun p => (pcfgs (F := F) p).Adm
/-- The program's one SparseCore call. -/
abbrev K : SparseCore.Cfg τ sig (ΛP (F := F)) 1 := sc (F := F)
/-- The call runs on sixteen subcores of a SparseCore. -/
theorem nSub_zero : (K (F := F)).nSub 0 = 16 := rfl
/-- The call runs on both SparseCores. -/
theorem nCore_zero : (K (F := F)).nCore 0 = 2 := rfl
/-- The body table under the regions. -/
abbrev D : Defs nD τ sig (Elt F) (ΛP (F := F)) := Pipeline.defs pcfgs defs₀
end Program

/-- The program's own loops need no variant. -/
abbrev 𝒱₀ : Variants := Variants.none
/-- Nor do the regions' labels over them. -/
abbrev 𝒱 : Variants := 𝒱₀.lift
/-- The variant that is none. -/
abbrev v₀ : 𝒱.V := Sum.inl none

/-- The handshake semaphores are distinct and unscoped, no scalar buffer is shared. -/
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The regions' rounds. -/
abbrev UR : Type := URounds (GSem nD τ sig) Unit
/-- The ghost state: the handshakes' rounds, the regions' rounds and the copies' counters. -/
abbrev UU : Type := UH × (UR × Counters)

local notation "𝕄" => MT nD τ sig (HIx 1) (Elt F) ℕ UU ℕ

/-- The handshakes' rounds: the first factor. -/
abbrev EH : Emb UH (MT nD τ sig (HIx 1) (Elt F) ℕ UU ℕ) := embL
/-- The regions' rounds: the second factor. -/
abbrev ER : Emb UR (MT nD τ sig (HIx 1) (Elt F) ℕ UU ℕ) :=
  ((Emb.inl : Emb UR (UR × Counters)).trans (Emb.inr : Emb (UR × Counters) UU)).trans (uEmb (nD := nD) (sig := sig) (Ix := HIx 1) (Val := Elt F) (Name := ℕ) (U := UU) (Lvl := ℕ)).toEmb

/-- The regions' rounds lie in the ghost state that a handshake may keep. -/
instance ER_landsIn : (ER : Emb UR 𝕄).LandsIn (upEmb : UEmb _ 𝕄) := by unfold ER; infer_instance
/-- The handshakes' rounds lie in the ghost state that a handshake may keep. -/
instance EH_landsIn : (EH : Emb UH 𝕄).LandsIn (upEmb : UEmb _ 𝕄) := by unfold EH; infer_instance

example : CountersIn UU := inferInstance

end Cert.Proof.Seg

end
-- ==== Proof.Whole.lean ====
/-
  Whole memrefs read and written whole: what a load of the full rectangle yields, what a store over it leaves.
-/
module

public import proofs.«01_k».proof.Proof.Setup

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- A load of a whole memref's full rectangle reads what the memref reads. -/
theorem whole_readAt {Val : EltTy → Type} {sig : RefSig} {κ : Kind} {sp : Space} {s : Shape} {e : EltTy} {m : Memref sig κ sp s e} (h : m.IsWhole)
    {off : Fin s.rank → Nat} (hz : off = fun _ => 0) (inb) (f : m.view.ty.Contents Val) :
    m.view.readAt Val (Rect.unit off s.size inb).toLoadRect f = m.view.read Val f := by
  obtain ⟨b, rfl, rfl, rfl, hb⟩ := h
  obtain rfl := eq_of_heq hb
  exact Memref.readAt_unit_zero Val b hz inb f

/-- An unmasked store over a whole memref's full rectangle leaves the memref reading the payload. -/
theorem whole_write {Val : EltTy → Type} {sig : RefSig} {κ : Kind} {sp : Space} {s : Shape} {e : EltTy} {m : Memref sig κ sp s e} (h : m.IsWhole)
    {off : Fin s.rank → Nat} (hz : off = fun _ => 0) (inb) (f : m.view.ty.Contents Val) (w : s.Idx → Val e) :
    m.view.read Val ((m.access (Rect.unit off s.size inb)).write Val f w Finset.univ) = w := by
  obtain ⟨b, rfl, rfl, rfl, hb⟩ := h
  obtain rfl := eq_of_heq hb
  exact Memref.write_access_unit_zero_univ Val b hz inb f w

variable {F : FTy → Type} [FloatOps F] [Named F]

local notation "𝕄" => MT nD τ sig (HIx 1) (Elt F) ℕ UU ℕ

/-- The gate kernel's body on any whole staging memrefs: it reads the node rows, the weights and the two columns, and
    leaves the gate and value blocks computed from them. -/
theorem gate_body (c : Dev nD) (E : Set ℕ) (i : grid0.Coords)
    (M1 : Memref sig .tc .vmem S7168x256 .f32) (h1 : M1.IsWhole) (M2 : Memref sig .tc .vmem S256x32 .f32) (h2 : M2.IsWhole)
    (M3 : Memref sig .tc .vmem S32x1 .f32) (h3 : M3.IsWhole) (M4 : Memref sig .tc .vmem S32x1 .f32) (h4 : M4.IsWhole)
    (M5 : Memref sig .tc .vmem S7168 .f32) (h5 : M5.IsWhole) (M6 : Memref sig .tc .vmem S7168 .f32) (h6 : M6.IsWhole)
    (X1 : S7168x256.Idx → Elt F .f32) (X2 : S256x32.Idx → Elt F .f32) (X3 X4 : S32x1.Idx → Elt F .f32) (X5 X6 : S7168.Idx → Elt F .f32)
    (Q : PUnit → sProp 𝕄) :
    iprop((owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6)
      ∗ (iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare (k0_pay3 i X1 X2 X3 X4)
        ∗ owns (c : Thread nD τ) M6 fullShare (k0_pay4 i X1 X2)) -∗ Q ⟨⟩))
      ⊢ wp frame (wpE (defs₀ (F := F)) 𝒱₀ c none) E (cc0__gate_tc_body i M1 h1 M2 h2 M3 h3 M4 h4 M5 h5 M6 h6) Q := by
  have hz : (![0, 0] : Fin 2 → Nat) = fun _ => 0 := funext fun a => by fin_cases a <;> rfl
  have hz1 : (![0] : Fin 1 → Nat) = fun _ => 0 := funext fun a => by fin_cases a <;> rfl
  simp only [cc0__gate_tc_body_eq_skeleton]; unfold cc0__gate_tc_body_skel owns
  simp only [Prog.lift, Prog.bind_op, Prog.bind_ret]
  iintro ⟨⟨⟨%f1, %e1, H1⟩, ⟨%f2, %e2, H2⟩, ⟨%f3, %e3, H3⟩, ⟨%f4, %e4, H4⟩, ⟨%f5, %e5, H5⟩, ⟨%f6, %e6, H6⟩⟩, Hk⟩
  simp only [h1.set_eq_univ, h2.set_eq_univ, h3.set_eq_univ, h4.set_eq_univ, h5.set_eq_univ, h6.set_eq_univ]
  sl_steps
  iapply Hk
  rw [whole_readAt h1 hz, whole_readAt h2 hz, whole_readAt h3 hz, whole_readAt h4 hz, e1, e2, e3, e4]
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _; isplitr; swap; · iexact H5
    ipureintro; exact whole_write h5 hz1 _ f5 _
  · iexists _; isplitr; swap; · iexact H6
    ipureintro; exact whole_write h6 hz1 _ f6 _

/-- The closing kernel's body on any whole staging memrefs: it reads both tables and the bias and leaves the pooled
    row computed from them. -/
theorem fin_body (c : Dev nD) (E : Set ℕ)
    (M0 : Memref sig .tc .vmem S512x513 .f32) (h0 : M0.IsWhole) (M1 : Memref sig .tc .vmem S512x513 .f32) (h1 : M1.IsWhole)
    (M2 : Memref sig .tc .vmem S1x1 .f32) (h2 : M2.IsWhole) (M3 : Memref sig .tc .vmem S1x512 .f32) (h3 : M3.IsWhole)
    (X0 X1 : S512x513.Idx → Elt F .f32) (X2 : S1x1.Idx → Elt F .f32) (X3 : S1x512.Idx → Elt F .f32) (Q : PUnit → sProp 𝕄) :
    iprop((owns (c : Thread nD τ) M0 fullShare X0 ∗ owns (c : Thread nD τ) M1 fullShare X1 ∗ owns (c : Thread nD τ) M2 fullShare X2
        ∗ owns (c : Thread nD τ) M3 fullShare X3)
      ∗ (iprop(owns (c : Thread nD τ) M0 fullShare X0 ∗ owns (c : Thread nD τ) M1 fullShare X1 ∗ owns (c : Thread nD τ) M2 fullShare X2
        ∗ owns (c : Thread nD τ) M3 fullShare (k2_pay1 X0 X1 X2)) -∗ Q ⟨⟩))
      ⊢ wp frame (wpE (defs₀ (F := F)) 𝒱₀ c none) E (cc2__fin_tc_body M0 h0 M1 h1 M2 h2 M3 h3) Q := by
  have hz : (![0, 0] : Fin 2 → Nat) = fun _ => 0 := funext fun a => by fin_cases a <;> rfl
  simp only [cc2__fin_tc_body_eq_skeleton]; unfold cc2__fin_tc_body_skel owns
  simp only [Prog.lift, Prog.bind_op, Prog.bind_ret]
  iintro ⟨⟨⟨%f0, %e0, H0⟩, ⟨%f1, %e1, H1⟩, ⟨%f2, %e2, H2⟩, ⟨%f3, %e3, H3⟩⟩, Hk⟩
  simp only [h0.set_eq_univ, h1.set_eq_univ, h2.set_eq_univ, h3.set_eq_univ]
  sl_steps
  iapply Hk
  rw [whole_readAt h0 hz, whole_readAt h1 hz, whole_readAt h2 hz, e0, e1, e2]
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  · iexists _; isplitr; swap; · iexact H3
    ipureintro; exact whole_write h3 hz _ f3 _

end Cert.Proof.Seg

end
-- ==== Proof.Region0.lean ====
/-
  The gate kernel's region on the TensorCore: over the node rows, the packed weights and the two columns it leaves the
  gate and value arrays, each block of them computed from the rows of its nodes. The last block overhangs the node rows,
  so its rows past the end are at contents nothing names.
-/
module

public import proofs.«01_k».proof.Proof.Whole
public import Idealize.ShloMosaic.Lib.Pipeline.DatRel
public import Idealize.ShloMosaic.Lib.Pipeline.ArrRel
public import Idealize.ShloMosaic.Lib.Pipeline.FrameBody
public import Idealize.ShloMosaic.Lib.Pipeline.RegionArrays
public import Idealize.ShloMosaic.Lib.Pipeline.Value
public import Idealize.ShloMosaic.Lib.Pipeline.ValueKit.Geometry

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig (HIx 1) (Elt F) ℕ UU ℕ

/-- Neither pipeline has a prefetched table. -/
abbrev adm (p : Fin 2) : (pcfgs (F := F) p).Adm := (cfgs p).toPCfg_adm

/-- Contents for a pipeline a region does not run: nothing is asked of them. -/
def junkDat (cfg : Cfg sig Λ₀) (c : Dev nD) : RDat τ (Elt F) (HIx 1) ℕ UU ℕ cfg c where
  A _ := fun _ => Classical.arbitrary _
  after _ _ _ _ := True
  Φ _ := BI.emp
  q _ := fullShare
  owed _ := 0

/-- The waits at levels up to where the calls from `n` on begin. -/
def recd (c : Dev nD) (n : ℕ) : Set (SemLoc sig × HIx 1) := {p | (K (F := F)).lev (T c, p.1) p.2 ≤ 8 * n}

section Region0

variable (V : (c : Dev nD) → (b : Ref sig .tc) → Buf (Elt F) ((c : Thread nD τ).loc b))

/-- The node rows of point `t` as its fetch stages them, over whatever the staging buffer held past the array's end. -/
abbrev xrows (x : Vec F S100000x256 .f32) (t : Fin cfg0.N) (d : S7168x256.Idx → Elt F .f32) : S7168x256.Idx → Elt F .f32 :=
  win0_0.fill (grid0.coords t) d ((win0_0.blk t).view.read (Elt F) x)

/-- The windows whose contents a relation states: the two results. -/
def mark0 : Fin cfg0.W → Bool
  | ⟨4, _⟩ => true
  | ⟨5, _⟩ => true
  | _ => false

/-- What the body may leave in the results' staging buffers at a point: the gate and value blocks of that point's rows,
    over some contents past the array's end. -/
def rel0 (c : Dev nD) : (w : Fin cfg0.W) → Fin cfg0.N → ((cfg0.win w).block.Idx → Elt F (cfg0.win w).elt) → Prop
  | ⟨4, _⟩ => fun t X => ∃ d, X = k0_pay3 (grid0.coords t) (xrows (V c main_arg0) t d) (V c main_v5) (V c main_v10) (V c main_v16)
  | ⟨5, _⟩ => fun t X => ∃ d, X = k0_pay4 (grid0.coords t) (xrows (V c main_arg0) t d) (V c main_v5)
  | _ => fun _ _ => True

/-- The exact part of the region's data: the arrays at their entry contents, the inputs' staging buffers left as fetched. -/
def dat0 (c : Dev nD) : Dat τ (Elt F) (HIx 1) ℕ UU ℕ cfg0 c where
  A w := V c (Pipeline.arrRef spec0 w)
  after w t := match w with
    | ⟨0, _⟩ => xrows (V c main_arg0) t fun _ => Scalar.ofBits .f32 0#32
    | ⟨1, _⟩ => V c main_v5
    | ⟨2, _⟩ => V c main_v10
    | ⟨3, _⟩ => V c main_v16
    | ⟨4, _⟩ => fun _ => Scalar.ofBits .f32 0#32
    | ⟨5, _⟩ => fun _ => Scalar.ofBits .f32 0#32
  Φ _ := Pipeline.scopedRest (Ix := HIx 1) (Name := ℕ) (U := UU) (Lvl := ℕ) (Val := Elt F) spec0 c
  q _ := fullShare
  owed _ := (K (F := F)).Otc c 0
  recorded _ := recd (F := F) c 0

/-- The block of rows fetched for a step. -/
theorem before0_0 (c : Dev nD) (t : Fin cfg0.N) (d) : (dat0 V c).before 0 t d = xrows (V c main_arg0) t d :=
  ((dat0 V c).before_fetched 0 t (fetch0_0 t) d).trans rfl

/-- The block of the joined weights is the whole array. -/
theorem blk0_1 (t : Fin cfg0.N) (f : S256x32.Idx → Elt F .f32) : (win0_1.blk t).view.read (Elt F) f = f :=
  Memref.read_access_unit_zero (Elt F) main_v5 (off := fun a => win0_1.kind.off (win0_1.index t a) (win0_1.size a)) (funext fun a => by fin_cases a <;> rfl) _ f
/-- The block of the offsets is the whole array. -/
theorem blk0_2 (t : Fin cfg0.N) (f : S32x1.Idx → Elt F .f32) : (win0_2.blk t).view.read (Elt F) f = f :=
  Memref.read_access_unit_zero (Elt F) main_v10 (off := fun a => win0_2.kind.off (win0_2.index t a) (win0_2.size a)) (funext fun a => by fin_cases a <;> rfl) _ f
/-- The block of the second weights is the whole array. -/
theorem blk0_3 (t : Fin cfg0.N) (f : S32x1.Idx → Elt F .f32) : (win0_3.blk t).view.read (Elt F) f = f :=
  Memref.read_access_unit_zero (Elt F) main_v16 (off := fun a => win0_3.kind.off (win0_3.index t a) (win0_3.size a)) (funext fun a => by fin_cases a <;> rfl) _ f

/-- An input window whose block is its whole array is found holding the array, fetched at this point or left by the last. -/
theorem before0_whole (c : Dev nD) (t : Fin cfg0.N) :
    (∀ d, (dat0 V c).before 1 t d = V c main_v5) ∧ (∀ d, (dat0 V c).before 2 t d = V c main_v10) ∧ (∀ d, (dat0 V c).before 3 t d = V c main_v16) := by
  refine ⟨fun d => ?_, fun d => ?_, fun d => ?_⟩
  · exact ((dat0 V c).before_in_eq_fetched 1 rfl (fun _ => rfl) (fun _ _ _ => rfl) (fun t => (blk0_1 t _).symm) t d).trans (blk0_1 t (V c main_v5))
  · exact ((dat0 V c).before_in_eq_fetched 2 rfl (fun _ => rfl) (fun _ _ _ => rfl) (fun t => (blk0_2 t _).symm) t d).trans (blk0_2 t (V c main_v10))
  · exact ((dat0 V c).before_in_eq_fetched 3 rfl (fun _ => rfl) (fun _ _ _ => rfl) (fun t => (blk0_3 t _).symm) t d).trans (blk0_3 t (V c main_v16))

/-- The body's obligation at every point: what it finds in the inputs' buffers it leaves there, and what it leaves in the
    results' is computed from it. -/
theorem body0 (c : Dev nD) : BodyObligationRel (dat0 V c) (defs₀ (F := F)) 𝒱₀ none Set.univ mark0 (rel0 V c) := fun t => by
  rw [bigSep_W0, bigSep_W0]
  simp only [show mark0 0 = false from rfl, show mark0 1 = false from rfl, show mark0 2 = false from rfl, show mark0 3 = false from rfl,
    show mark0 4 = true from rfl, show mark0 5 = true from rfl]
  rw [show (dat0 V c).Φ t.succ = (dat0 V c).Φ t.castSucc from rfl,
    show (dat0 V c).owesAt none t.succ = (dat0 V c).owesAt none t.castSucc from rfl]
  iintro ⟨HΦ, Ho, ⟨%d0, H0⟩, ⟨%d1, H1⟩, ⟨%d2, H2⟩, ⟨%d3, H3⟩, ⟨%Y4, -, H4⟩, ⟨%Y5, -, H5⟩⟩
  rw [before0_0 V c t d0, (before0_whole V c t).1 d1, (before0_whole V c t).2.1 d2, (before0_whole V c t).2.2 d3]
  iapply (gate_body (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    (xrows (V c main_arg0) t d0) (V c main_v5) (V c main_v10) (V c main_v16) Y4 Y5 _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists d0
    have e : win0_0.fill (grid0.coords t) d0 (win0_0.cut (grid0.coords t) ((dat0 V c).after 0 t)) = xrows (V c main_arg0) t d0 :=
      congrArg (win0_0.fill (grid0.coords t) d0) (win0_0.cut_fill _ _ _)
    change _ ⊢ owns (c : Thread nD τ) (win0_0.stage (cfg0.slots t 0)) fullShare (win0_0.fill (grid0.coords t) d0 (win0_0.cut (grid0.coords t) ((dat0 V c).after 0 t)))
    rw [e]
  isplitl [H1]; · iexact H1
  isplitl [H2]; · iexact H2
  isplitl [H3]; · iexact H3
  isplitl [H4]
  · iexists _; isplitr; swap; · iexact H4
    ipureintro; exact ⟨d0, rfl⟩
  · iexists _; isplitr; swap; · iexact H5
    ipureintro; exact ⟨d0, rfl⟩

/-! ## What the results hold -/

/-- What the gate array may hold: at each point's block, the gates of that point's rows, over some contents past the end
    of the node rows. -/
def GateOK (x : Vec F S100000x256 .f32) (wc : Vec F S256x32 .f32) (bc wo : Vec F S32x1 .f32) (g : Vec F S100352 .f32) : Prop :=
  ∀ t : Fin grid0.N, ∃ d, (win0_4.blk t).view.read (Elt F) g = k0_pay3 (grid0.coords t) (xrows x t d) wc bc wo

/-- What the value array may hold, likewise. -/
def ValueOK (x : Vec F S100000x256 .f32) (wc : Vec F S256x32 .f32) (y : Vec F S100352 .f32) : Prop :=
  ∀ t : Fin grid0.N, ∃ d, (win0_5.blk t).view.read (Elt F) y = k0_pay4 (grid0.coords t) (xrows x t d) wc

/-- Each step has its own block of the gates. -/
theorem index_inj4 : ∀ t t' : Fin grid0.N, win0_4.index t = win0_4.index t' → t = t' := by decide +kernel
/-- Each step has its own block of the values. -/
theorem index_inj5 : ∀ t t' : Fin grid0.N, win0_5.index t = win0_5.index t' → t = t' := by decide +kernel

/-- The gate array after the region. -/
theorem gate_of_arrAt (c : Dev nD) (g : Vec F S100352 .f32) (h : ((dat0 V c).toRRel mark0 (rel0 V c)).ArrAt 4 cfg0.N g) :
    GateOK (V c main_arg0) (V c main_v5) (V c main_v10) (V c main_v16) g := fun t => by
  obtain ⟨X, hX, hA⟩ := h.exists_exact
  let A : (w' : Fin cfg0.W) → Fin cfg0.N → (cfg0.win w').block.Idx → Elt F (cfg0.win w').elt := Function.update (fun _ _ _ => Classical.arbitrary _) 4 X
  have hAw : A 4 = X := Function.update_self ..
  have e := hA A fun u _ _ => congrFun hAw u
  obtain ⟨d, hd⟩ := (dat0 V c).toRRel_leaves (w := 4) rfl (hX t t.isLt (flush0_4 t))
  refine ⟨d, ?_⟩
  rw [e]
  refine (Dat.read_blk_arrAt_eq_flushed _ 4 ((cfg0.win 4).hdisj_of_index_inj fun t t' _ _ => index_inj4 t t') cfg0.N t t.isLt (flush0_4 t)).trans ?_
  refine Eq.trans ?_ hd
  exact congrFun hAw t

/-- The value array after the region. -/
theorem value_of_arrAt (c : Dev nD) (y : Vec F S100352 .f32) (h : ((dat0 V c).toRRel mark0 (rel0 V c)).ArrAt 5 cfg0.N y) :
    ValueOK (V c main_arg0) (V c main_v5) y := fun t => by
  obtain ⟨X, hX, hA⟩ := h.exists_exact
  let A : (w' : Fin cfg0.W) → Fin cfg0.N → (cfg0.win w').block.Idx → Elt F (cfg0.win w').elt := Function.update (fun _ _ _ => Classical.arbitrary _) 5 X
  have hAw : A 5 = X := Function.update_self ..
  have e := hA A fun u _ _ => congrFun hAw u
  obtain ⟨d, hd⟩ := (dat0 V c).toRRel_leaves (w := 5) rfl (hX t t.isLt (flush0_5 t))
  refine ⟨d, ?_⟩
  rw [e]
  refine (Dat.read_blk_arrAt_eq_flushed _ 5 ((cfg0.win 5).hdisj_of_index_inj fun t t' _ _ => index_inj5 t t') cfg0.N t t.isLt (flush0_5 t)).trans ?_
  refine Eq.trans ?_ hd
  exact congrFun hAw t

/-! ## The region over the thread's state -/

/-- The region's data for both pipelines: this region's own, and nothing of the other. -/
def rds0 : (p : Fin 2) → (c : Dev nD) → RDat τ (Elt F) (HIx 1) ℕ UU ℕ (Pipeline.pin (pcfgs (F := F)) adm p) c
  | ⟨0, _⟩ => fun c => (dat0 V c).toRRel mark0 (rel0 V c)
  | ⟨1, _⟩ => fun c => junkDat cfg2 c

/-- Array `b` of core `c` held whole at `f`. -/
abbrev at' (c : Dev nD) (b : Ref sig .tc) (f : Buf (Elt F) ((c : Thread nD τ).loc b)) : sProp 𝕄 := (c : Thread nD τ).loc b ↦{fullShare} f

/-- What the core owes the SparseCores before call `n`, every wait so far below them. -/
abbrev owesTc (c : Dev nD) (n : ℕ) : sProp 𝕄 := iprop(∃ W, ⌜(K (F := F)).WBelow (T c) W (8 * n)⌝ ∗ owes (T c) ((K (F := F)).Otc c n) W)

/-- Nothing that the core owes is outside the calls. -/
theorem Otc_none (c : Dev nD) (n : ℕ) (g : GSem nD τ sig) : (K (F := F)).Otc (nD := nD) (N := 1) c n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c' _ => ?_
    rw [tallyAt_apply, if_neg (by rintro ⟨-, h⟩; exact absurd h (by simp))]
  · rfl

set_option backward.isDefEq.respectTransparency.types false in
/-- The gate kernel's region: in, its six arrays at their contents and what the core owes; out, the four inputs as they
    were and the two results at contents it may leave. -/
def reg0 : RDat.RegionSeg (pcfgs (F := F)) adm (rds0 V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 V c).toRRel
  hwaits c := RDat.cellsWaits_intro (Pipeline.pin (pcfgs (F := F)) adm) (rds0 V) none 0 c fun w s t => (K (F := F)).mayWait_none _ fun g => Otc_none c 0 g
  pre c := iprop((at' c main_arg0 (V c main_arg0) ∗ at' c main_v5 (V c main_v5) ∗ at' c main_v10 (V c main_v10) ∗ at' c main_v16 (V c main_v16)
    ∗ at' c main_v17_0 (V c main_v17_0) ∗ at' c main_v17_1 (V c main_v17_1)) ∗ owesTc (F := F) c 0)
  post c := iprop((at' c main_arg0 (V c main_arg0) ∗ at' c main_v5 (V c main_v5) ∗ at' c main_v10 (V c main_v10) ∗ at' c main_v16 (V c main_v16)
    ∗ (∃ g, ⌜GateOK (V c main_arg0) (V c main_v5) (V c main_v10) (V c main_v16) g⌝ ∗ at' c main_v17_0 g)
    ∗ (∃ y, ⌜ValueOK (V c main_arg0) (V c main_v5) y⌝ ∗ at' c main_v17_1 y)) ∗ owesTc (F := F) c 0)
  X _ := BI.emp
  Y _ := BI.emp
  Z _ := BI.emp
  hentry c := by
    rw [Pipeline.ownSems0_none, Pipeline.prefHeld_of_none _ rfl,
      RDat.arrays_eq (pcfgs (F := F)) adm (rds0 V) 0 c launch0.arr_whole (fun w => (rds0 V 0 c).share_full (fun _ => rfl) w)]
    erw [bigSep_W0]
    iintro ⟨⟨⟨H0, H1, H2, H3, H4, H5⟩, %W, %hW, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · unfold RDat.owesAt Pipeline.owesWithin
      iexists W; isplitr; · ipureintro; exact fun p hp => Or.inl (hW p hp)
      iexact HO
    isplitr <;> iempintro
  hin c := by
    rw [show (rds0 V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (rds0 V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    rw [RDat.arraysAt_eq (pcfgs (F := F)) adm (rds0 V) 0 c launch0.arr_whole (fun w => (rds0 V 0 c).share_full (fun _ => rfl) w)]
    erw [bigSep_W0]
    iintro ⟨⟨⟨%f0, %h0, H0⟩, ⟨%f1, %h1, H1⟩, ⟨%f2, %h2, H2⟩, ⟨%f3, %h3, H3⟩, ⟨%f4, %h4, H4⟩, ⟨%f5, %h5, H5⟩⟩, HO, -, -⟩
    have e0 : f0 = V c main_arg0 := by have := (rds0 V 0 c).ArrAt_in 0 rfl cfg0.N; exact (congrFun this f0).mp h0
    have e1 : f1 = V c main_v5 := by have := (rds0 V 0 c).ArrAt_in 1 rfl cfg0.N; exact (congrFun this f1).mp h1
    have e2 : f2 = V c main_v10 := by have := (rds0 V 0 c).ArrAt_in 2 rfl cfg0.N; exact (congrFun this f2).mp h2
    have e3 : f3 = V c main_v16 := by have := (rds0 V 0 c).ArrAt_in 3 rfl cfg0.N; exact (congrFun this f3).mp h3
    subst e0 e1 e2 e3
    have g4 := gate_of_arrAt V c f4 h4
    have g5 := value_of_arrAt V c f5 h5
    imodintro
    isplitr [HO]
    · isplitl [H0]; · iexact H0
      isplitl [H1]; · iexact H1
      isplitl [H2]; · iexact H2
      isplitl [H3]; · iexact H3
      isplitl [H4]
      · iexists f4; isplitr; · ipureintro; exact g4
        iexact H4
      · iexists f5; isplitr; · ipureintro; exact g5
        iexact H5
    · unfold RDat.owesAt Pipeline.owesWithin
      icases HO with ⟨%W, %hW, HO⟩
      iexists W; isplitr
      · ipureintro; intro p hp
        rcases hW hp with h | ⟨w, s, rfl⟩
        · exact h
        · exact Nat.zero_le _
      iexact HO

end Region0

end Cert.Proof.Seg

end
-- ==== Proof.Region2.lean ====
/-
  The closing kernel's region on the TensorCore: over the two tables and the bias it leaves the pooled row.
-/
module

public import proofs.«01_k».proof.Proof.Region0

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- What the body may leave: in the result's staging buffer, the pooled row of the tables and the bias. -/
def rel2 (c : Dev nD) : (w : Fin cfg2.W) → Fin cfg2.N → ((cfg2.win w).block.Idx → Elt F (cfg2.win w).elt) → Prop
  | ⟨3, _⟩ => fun _ X => X = k2_pay1 (V c main_v19_0) (V c main_v19_1) (V c main_v20)
  | _ => fun _ _ => True

/-- The region's data: the arrays at their entry contents, every window's contents stated by the relation. -/
def dat2 (c : Dev nD) : Dat τ (Elt F) (HIx 1) ℕ UU ℕ cfg2 c where
  A w := V c (Pipeline.arrRef spec2 w)
  after w t := match w with
    | ⟨0, _⟩ => fun _ => Scalar.ofBits .f32 0#32
    | ⟨1, _⟩ => fun _ => Scalar.ofBits .f32 0#32
    | ⟨2, _⟩ => fun _ => Scalar.ofBits .f32 0#32
    | ⟨3, _⟩ => fun _ => Scalar.ofBits .f32 0#32
  Φ _ := Pipeline.scopedRest (Ix := HIx 1) (Name := ℕ) (U := UU) (Lvl := ℕ) (Val := Elt F) spec2 c
  q _ := fullShare
  owed _ := (K (F := F)).Otc c 1
  recorded _ := recd (F := F) c 1

/-- Every window is stated by the relation. -/
abbrev mark2 : Fin cfg2.W → Bool := fun _ => true

/-- The block of the denominators is the whole table. -/
theorem blk2_0 (t : Fin cfg2.N) (f : S512x513.Idx → Elt F .f32) : (win2_0.blk t).view.read (Elt F) f = f :=
  Memref.read_access_unit_zero (Elt F) main_v19_0 (off := fun a => win2_0.kind.off (win2_0.index t a) (win2_0.size a)) (funext fun a => by fin_cases a <;> rfl) _ f
/-- The block of the numerators is the whole table. -/
theorem blk2_1 (t : Fin cfg2.N) (f : S512x513.Idx → Elt F .f32) : (win2_1.blk t).view.read (Elt F) f = f :=
  Memref.read_access_unit_zero (Elt F) main_v19_1 (off := fun a => win2_1.kind.off (win2_1.index t a) (win2_1.size a)) (funext fun a => by fin_cases a <;> rfl) _ f
/-- The block of the offset is the whole array. -/
theorem blk2_2 (t : Fin cfg2.N) (f : S1x1.Idx → Elt F .f32) : (win2_2.blk t).view.read (Elt F) f = f :=
  Memref.read_access_unit_zero (Elt F) main_v20 (off := fun a => win2_2.kind.off (win2_2.index t a) (win2_2.size a)) (funext fun a => by fin_cases a <;> rfl) _ f
/-- The block of the result is the whole row. -/
theorem blk2_3 (t : Fin cfg2.N) (f : S1x512.Idx → Elt F .f32) : (win2_3.blk t).view.read (Elt F) f = f :=
  Memref.read_access_unit_zero (Elt F) main_v21 (off := fun a => win2_3.kind.off (win2_3.index t a) (win2_3.size a)) (funext fun a => by fin_cases a <;> rfl) _ f

/-- The body's obligation at the one point. -/
theorem body2 (c : Dev nD) : BodyObligationRel (dat2 V c) (defs₀ (F := F)) 𝒱₀ none Set.univ mark2 (rel2 V c) := fun t => by
  rw [bigSep_W2, bigSep_W2]
  simp only [mark2]
  rw [show (dat2 V c).Φ t.succ = (dat2 V c).Φ t.castSucc from rfl,
    show (dat2 V c).owesAt none t.succ = (dat2 V c).owesAt none t.castSucc from rfl]
  iintro ⟨HΦ, Ho, ⟨%Y0, %h0, H0⟩, ⟨%Y1, %h1, H1⟩, ⟨%Y2, %h2, H2⟩, ⟨%Y3, -, H3⟩⟩
  have e0 : Y0 = V c main_v19_0 := by
    obtain ⟨d, hd⟩ := (RDat.finds_of_fetch _ (w := 0) (fetch2_0 t) Y0).mp h0
    exact hd.trans (blk2_0 t (V c main_v19_0))
  have e1 : Y1 = V c main_v19_1 := by
    obtain ⟨d, hd⟩ := (RDat.finds_of_fetch _ (w := 1) (fetch2_1 t) Y1).mp h1
    exact hd.trans (blk2_1 t (V c main_v19_1))
  have e2 : Y2 = V c main_v20 := by
    obtain ⟨d, hd⟩ := (RDat.finds_of_fetch _ (w := 2) (fetch2_2 t) Y2).mp h2
    exact hd.trans (blk2_2 t (V c main_v20))
  subst e0 e1 e2
  iapply (fin_body (F := F) c Set.univ (win2_0.stage (cfg2.slots t 0)) (hstage2_0 0) (win2_1.stage (cfg2.slots t 1)) (hstage2_1 0)
    (win2_2.stage (cfg2.slots t 2)) (hstage2_2 0) (win2_3.stage (cfg2.slots t 3)) (hstage2_3 0)
    (V c main_v19_0) (V c main_v19_1) (V c main_v20) Y3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  · iexists _; isplitr; swap; · iexact H3
    ipureintro; exact rfl

/-- The one step has its own block of the result. -/
theorem index_inj2_3 : ∀ t t' : Fin grid2.N, win2_3.index t = win2_3.index t' → t = t' := by decide +kernel

/-- The pooled row after the region. -/
theorem row_of_arrAt (c : Dev nD) (g : Vec F S1x512 .f32) (h : ((dat2 V c).toRRel mark2 (rel2 V c)).ArrAt 3 cfg2.N g) :
    g = k2_pay1 (V c main_v19_0) (V c main_v19_1) (V c main_v20) := by
  obtain ⟨X, hX, hA⟩ := h.exists_exact
  let A : (w' : Fin cfg2.W) → Fin cfg2.N → (cfg2.win w').block.Idx → Elt F (cfg2.win w').elt := Function.update (fun _ _ _ => Classical.arbitrary _) 3 X
  have hAw : A 3 = X := Function.update_self ..
  have e := hA A fun u _ _ => congrFun hAw u
  have hd := (dat2 V c).toRRel_leaves (w := 3) rfl (hX t2_0 t2_0.isLt (flush2_3 t2_0))
  refine (blk2_3 t2_0 g).symm.trans ?_
  rw [e]
  refine (Dat.read_blk_arrAt_eq_flushed _ 3 ((cfg2.win 3).hdisj_of_index_inj fun t t' _ _ => index_inj2_3 t t') cfg2.N t2_0 t2_0.isLt (flush2_3 t2_0)).trans ?_
  refine Eq.trans ?_ hd
  exact congrFun hAw t2_0

/-- The region's data for both pipelines: this region's own, and nothing of the other. -/
def rds2 : (p : Fin 2) → (c : Dev nD) → RDat τ (Elt F) (HIx 1) ℕ UU ℕ (Pipeline.pin (pcfgs (F := F)) adm p) c
  | ⟨0, _⟩ => fun c => junkDat cfg0 c
  | ⟨1, _⟩ => fun c => (dat2 V c).toRRel mark2 (rel2 V c)

set_option backward.isDefEq.respectTransparency.types false in
/-- The closing kernel's region: in, its four arrays at their contents and what the core owes; out, the three inputs as
    they were and the result at the pooled row. -/
def reg2 : RDat.RegionSeg (pcfgs (F := F)) adm (rds2 V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V c).toRRel
  hwaits c := RDat.cellsWaits_intro (Pipeline.pin (pcfgs (F := F)) adm) (rds2 V) none 1 c fun w s t => (K (F := F)).mayWait_none _ fun g => Otc_none c 1 g
  pre c := iprop((at' c main_v19_0 (V c main_v19_0) ∗ at' c main_v19_1 (V c main_v19_1) ∗ at' c main_v20 (V c main_v20)
    ∗ at' c main_v21 (V c main_v21)) ∗ owesTc (F := F) c 1)
  post c := iprop((at' c main_v19_0 (V c main_v19_0) ∗ at' c main_v19_1 (V c main_v19_1) ∗ at' c main_v20 (V c main_v20)
    ∗ at' c main_v21 (k2_pay1 (V c main_v19_0) (V c main_v19_1) (V c main_v20))) ∗ owesTc (F := F) c 1)
  X _ := BI.emp
  Y _ := BI.emp
  Z _ := BI.emp
  hentry c := by
    rw [Pipeline.ownSems0_none, Pipeline.prefHeld_of_none _ rfl,
      RDat.arrays_eq (pcfgs (F := F)) adm (rds2 V) 1 c launch2.arr_whole (fun w => (rds2 V 1 c).share_full (fun _ => rfl) w)]
    erw [bigSep_W2]
    iintro ⟨⟨⟨H0, H1, H2, H3⟩, %W, %hW, HO⟩, -, -⟩
    imodintro
    isplitl [H0 H1 H2 H3]
    · isplitl [H0]; · iexact H0
      isplitl [H1]; · iexact H1
      isplitl [H2]; · iexact H2
      iexact H3
    isplitr; · iempintro
    isplitl [HO]
    · unfold RDat.owesAt Pipeline.owesWithin
      iexists W; isplitr; · ipureintro; exact fun p hp => Or.inl (hW p hp)
      iexact HO
    isplitr <;> iempintro
  hin c := by
    rw [show (rds2 V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (rds2 V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    rw [RDat.arraysAt_eq (pcfgs (F := F)) adm (rds2 V) 1 c launch2.arr_whole (fun w => (rds2 V 1 c).share_full (fun _ => rfl) w)]
    erw [bigSep_W2]
    iintro ⟨⟨⟨%f0, %h0, H0⟩, ⟨%f1, %h1, H1⟩, ⟨%f2, %h2, H2⟩, ⟨%f3, %h3, H3⟩⟩, HO, -, -⟩
    have e0 : f0 = V c main_v19_0 := by have := (rds2 V 1 c).ArrAt_in 0 rfl cfg2.N; exact (congrFun this f0).mp h0
    have e1 : f1 = V c main_v19_1 := by have := (rds2 V 1 c).ArrAt_in 1 rfl cfg2.N; exact (congrFun this f1).mp h1
    have e2 : f2 = V c main_v20 := by have := (rds2 V 1 c).ArrAt_in 2 rfl cfg2.N; exact (congrFun this f2).mp h2
    have e3 := row_of_arrAt V c f3 h3
    subst e0 e1 e2
    imodintro
    isplitr [HO]
    · isplitl [H0]; · iexact H0
      isplitl [H1]; · iexact H1
      isplitl [H2]; · iexact H2
      rw [← e3]; iexact H3
    · unfold RDat.owesAt Pipeline.owesWithin
      icases HO with ⟨%W, %hW, HO⟩
      iexists W; isplitr
      · ipureintro; intro p hp
        rcases hW hp with h | ⟨w, s, rfl⟩
        · exact h
        · exact Nat.zero_le _
      iexact HO

end Cert.Proof.Seg

end
-- ==== Proof.Host.lean ====
/-
  The host operations around the kernels: the packed weights, the two columns, the padded ids, the bias as a 1x1 array and
  the reshaped result, as lines of operations and as the values they leave.
-/
module

public import proofs.«01_k».proof.Proof.Region2
public import Idealize.ShloMosaic.Lib.StableHlo.Run
public import Idealize.ShloMosaic.Lib.StableHlo.RunRead

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig (HIx 1) (Elt F) ℕ UU ℕ

/-- The operations before the gate kernel. -/
def ops1 : List (HloOp τ sig (Elt F)) :=
  [ StableHlo.nullary main_cst (constant S_ .f32 0x00000000#32),
    StableHlo.unary main_cst main_v0 (broadcastInDim S256x32 ![] bcast_S_S256x32 : (⟨S_, .f32⟩ : BufTy).Contents (Elt F) → (⟨S256x32, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.ternary main_v0 main_v1 main_arg2 main_v2 ((fun x i u => Host.scatter scatter_S256x32_S1_S256x16_01_n_1_0 (fun _ b => b) x i u) : (⟨S256x32, .f32⟩ : BufTy).Contents (Elt F) → (⟨S1, .i32⟩ : BufTy).Contents (Elt F) → (⟨S256x16, .f32⟩ : BufTy).Contents (Elt F) → (⟨S256x32, .f32⟩ : BufTy).Contents (Elt F)),
    StableHlo.reshape main_arg6 main_v3 (rfl : (.f32 : EltTy) = .f32) shapeCasts_S256x1_S256,
    StableHlo.nullary main_c_0 (constantI S_ 32 16#32),
    StableHlo.unary main_c_0 main_v4 (broadcastInDim S1 ![] bcast_S_S1 : (⟨S_, .i32⟩ : BufTy).Contents (Elt F) → (⟨S1, .i32⟩ : BufTy).Contents (Elt F)),
    StableHlo.ternary main_v2 main_v4 main_v3 main_v5 ((fun x i u => Host.scatter scatter_S256x32_S1_S256_0_1_1_0 (fun _ b => b) x i u) : (⟨S256x32, .f32⟩ : BufTy).Contents (Elt F) → (⟨S1, .i32⟩ : BufTy).Contents (Elt F) → (⟨S256, .f32⟩ : BufTy).Contents (Elt F) → (⟨S256x32, .f32⟩ : BufTy).Contents (Elt F)),
    StableHlo.nullary main_cst_1 (constant S_ .f32 0x00000000#32),
    StableHlo.unary main_cst_1 main_v6 (broadcastInDim S32x1 ![] bcast_S_S32x1 : (⟨S_, .f32⟩ : BufTy).Contents (Elt F) → (⟨S32x1, .f32⟩ : BufTy).Contents (Elt F)),
    StableHlo.nullary main_c_2 (constantI S_ 32 0#32),
    StableHlo.unary main_c_2 main_v7 (broadcastInDim S1 ![] bcast_S_S1 : (⟨S_, .i32⟩ : BufTy).Contents (Elt F) → (⟨S1, .i32⟩ : BufTy).Contents (Elt F)),
    StableHlo.nullary main_c_3 (constantI S_ 32 0#32),
    StableHlo.unary main_c_3 main_v8 (broadcastInDim S1 ![] bcast_S_S1 : (⟨S_, .i32⟩ : BufTy).Contents (Elt F) → (⟨S1, .i32⟩ : BufTy).Contents (Elt F)),
    StableHlo.binary main_v7 main_v8 main_v9 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v6 main_v9 main_arg3 main_v10 ((fun x i u => Host.scatter scatter_S32x1_S2_S16_0_1_01_0 (fun _ b => b) x i u) : (⟨S32x1, .f32⟩ : BufTy).Contents (Elt F) → (⟨S2, .i32⟩ : BufTy).Contents (Elt F) → (⟨S16, .f32⟩ : BufTy).Contents (Elt F) → (⟨S32x1, .f32⟩ : BufTy).Contents (Elt F)),
    StableHlo.nullary main_cst_4 (constant S_ .f32 0x00000000#32),
    StableHlo.unary main_cst_4 main_v11 (broadcastInDim S32x1 ![] bcast_S_S32x1 : (⟨S_, .f32⟩ : BufTy).Contents (Elt F) → (⟨S32x1, .f32⟩ : BufTy).Contents (Elt F)),
    StableHlo.reshape main_arg4 main_v12 (rfl : (.f32 : EltTy) = .f32) shapeCasts_S16x1_S16,
    StableHlo.nullary main_c_5 (constantI S_ 32 0#32),
    StableHlo.unary main_c_5 main_v13 (broadcastInDim S1 ![] bcast_S_S1 : (⟨S_, .i32⟩ : BufTy).Contents (Elt F) → (⟨S1, .i32⟩ : BufTy).Contents (Elt F)),
    StableHlo.nullary main_c_6 (constantI S_ 32 0#32),
    StableHlo.unary main_c_6 main_v14 (broadcastInDim S1 ![] bcast_S_S1 : (⟨S_, .i32⟩ : BufTy).Contents (Elt F) → (⟨S1, .i32⟩ : BufTy).Contents (Elt F)),
    StableHlo.binary main_v13 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v11 main_v15 main_v12 main_v16 ((fun x i u => Host.scatter scatter_S32x1_S2_S16_0_1_01_0 (fun _ b => b) x i u) : (⟨S32x1, .f32⟩ : BufTy).Contents (Elt F) → (⟨S2, .i32⟩ : BufTy).Contents (Elt F) → (⟨S16, .f32⟩ : BufTy).Contents (Elt F) → (⟨S32x1, .f32⟩ : BufTy).Contents (Elt F)) ]

/-- The operations between the gate kernel and the SparseCores' call: the ids padded. -/
def ops2 : List (HloOp τ sig (Elt F)) :=
  [ StableHlo.nullary main_c_7 (constantI S_ 32 511#32),
    StableHlo.unary main_c_7 main_call0_v0 (id : (⟨S_, .i32⟩ : BufTy).Contents (Elt F) → (⟨S_, .i32⟩ : BufTy).Contents (Elt F)),
    StableHlo.binary main_arg1 main_call0_v0 main_v18 ((fun x v => pad S100352 ![0] ![352] ![0] x v pads_S100000_S100352_03520 h_S_) : (⟨S100000, .i32⟩ : BufTy).Contents (Elt F) → (⟨S_, .i32⟩ : BufTy).Contents (Elt F) → (⟨S100352, .i32⟩ : BufTy).Contents (Elt F)) ]

/-- The operation between the call and the closing kernel. -/
def ops3 : List (HloOp τ sig (Elt F)) := [ StableHlo.reshape main_arg7 main_v20 (rfl : (.f32 : EltTy) = .f32) shapeCasts_S1_S1x1 ]

/-- The operation after the closing kernel. -/
def ops4 : List (HloOp τ sig (Elt F)) := [ StableHlo.reshape main_v21 main_v22 (rfl : (.f32 : EltTy) = .f32) shapeCasts_S1x512_S512x1 ]

/-- The program, line by line. -/
theorem main_eq (d : Dev nD) : main (F := F) d
    = StableHlo.seqK ops1 (Prog.lift (.customCall (SparseCore.inner (Pipeline.entry 0)) ()) >>= fun _ =>
        StableHlo.seqK ops2 ((K (F := F)).run d 0 >>= fun _ =>
          StableHlo.seqK ops3 (Prog.lift (.customCall (SparseCore.inner (Pipeline.entry 1)) ()) >>= fun _ =>
            StableHlo.seqK ops4 (pure ⟨⟩)))) := rfl

/-- The two projections side by side: the gate's sixteen columns, the value's one, zeros to the right. -/
def wcatOf (w1 : Vec F S256x16 .f32) (wo : Vec F S256x1 .f32) : Vec F S256x32 .f32 :=
  Host.scatter scatter_S256x32_S1_S256_0_1_1_0 (fun _ b => b)
    (Host.scatter scatter_S256x32_S1_S256x16_01_n_1_0 (fun _ b => b) (broadcastInDim S256x32 ![] bcast_S_S256x32 (constant S_ .f32 0x00000000#32))
      (broadcastInDim S1 ![] bcast_S_S1 (constantI S_ 32 0#32)) w1)
    (broadcastInDim S1 ![] bcast_S_S1 (constantI S_ 32 16#32)) (shapeCast S256 wo shapeCasts_S256x1_S256)

/-- A sixteen-vector as the first sixteen of a column of thirty-two, zeros below. -/
def colOf (b : Vec F S16 .f32) : Vec F S32x1 .f32 :=
  Host.scatter scatter_S32x1_S2_S16_0_1_01_0 (fun _ b => b) (broadcastInDim S32x1 ![] bcast_S_S32x1 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) b

/-- The ids, padded with the last segment's. -/
def idsOf (ids : Vec F S100000 .i32) : Vec F S100352 .i32 := pad S100352 ![0] ![352] ![0] ids (constantI S_ 32 511#32) pads_S100000_S100352_03520 h_S_

section Values
variable (W : Valuation τ sig (Elt F))

/-- The first line leaves the joined weights. -/
theorem ops1_v5 : StableHlo.after ops1 W main_v5 = wcatOf (W main_arg2) (W main_arg6) := by
  unfold ops1; after_results_simp; rfl
/-- The first line leaves the first layer's offsets as a column. -/
theorem ops1_v10 : StableHlo.after ops1 W main_v10 = colOf (W main_arg3) := by
  unfold ops1; after_results_simp; rfl
/-- The first line leaves the second layer's weights as a column. -/
theorem ops1_v16 : StableHlo.after ops1 W main_v16 = colOf (shapeCast S16 (W main_arg4) shapeCasts_S16x1_S16) := by
  unfold ops1; after_results_simp; rfl
/-- The second line leaves the padded ids. -/
theorem ops2_v18 : StableHlo.after ops2 W main_v18 = idsOf (W main_arg1) := by
  unfold ops2; after_results_simp; rfl
/-- The third line leaves the output's offset. -/
theorem ops3_v20 : StableHlo.after ops3 W main_v20 = shapeCast S1x1 (W main_arg7) shapeCasts_S1_S1x1 := by
  unfold ops3; after_results_simp; rfl
/-- The last line leaves the pooled row as a column. -/
theorem ops4_v22 : StableHlo.after ops4 W main_v22 = shapeCast S512x1 (W main_v21) shapeCasts_S1x512_S512x1 := by
  unfold ops4; after_results_simp; rfl

/-- What the first line leaves as it was. -/
theorem ops1_other {r : Ref sig .tc} (h : r ∉ [main_cst, main_v0, main_c, main_v1, main_v2, main_v3, main_c_0, main_v4, main_v5, main_cst_1, main_v6, main_c_2, main_v7,
    main_c_3, main_v8, main_v9, main_v10, main_cst_4, main_v11, main_v12, main_c_5, main_v13, main_c_6, main_v14, main_v15, main_v16]) :
    StableHlo.after ops1 W r = W r :=
  StableHlo.after_of_writes_sub ops1 W (StableHlo.forall_writes_sub_of_map rfl) h
/-- What the second line leaves as it was. -/
theorem ops2_other {r : Ref sig .tc} (h : r ∉ [main_c_7, main_call0_v0, main_v18]) : StableHlo.after ops2 W r = W r :=
  StableHlo.after_of_writes_sub ops2 W (StableHlo.forall_writes_sub_of_map rfl) h
/-- What the third line leaves as it was. -/
theorem ops3_other {r : Ref sig .tc} (h : r ∉ [main_v20]) : StableHlo.after ops3 W r = W r :=
  StableHlo.after_of_writes_sub ops3 W (StableHlo.forall_writes_sub_of_map rfl) h
/-- What the last line leaves as it was. -/
theorem ops4_other {r : Ref sig .tc} (h : r ∉ [main_v22]) : StableHlo.after ops4 W r = W r :=
  StableHlo.after_of_writes_sub ops4 W (StableHlo.forall_writes_sub_of_map rfl) h
end Values

/-! ## The buffers the lines run over -/

/-- The TensorCore's buffers outside its kernels. -/
abbrev uc : Finset (DevRef τ sig) := Pipeline.ucRefs τ sig

/-- A buffer outside the kernels is among those buffers. -/
theorem mem_uc (r : Ref sig .tc) (h : r.isScoped = false) : Proc.devRef (τ := τ) .tc r ∈ uc :=
  Finset.mem_filter.mpr ⟨StableHlo.devRef_mem_tcRefs _, fun h' => Bool.false_ne_true (h.symm.trans h')⟩

/-- A set of buffers named one by one is among them. -/
theorem sub_uc (l : List (Ref sig .tc)) (h : ∀ r ∈ l, r.isScoped = false) : (l.map (Proc.devRef (τ := τ) .tc)).toFinset ⊆ uc := fun b hb => by
  obtain ⟨y, hy, rfl⟩ := List.mem_map.mp (List.mem_toFinset.mp hb)
  exact mem_uc y (h y hy)

/-- The first line runs over those buffers. -/
theorem ops1_sub : ∀ op ∈ ops1 (F := F), op.bufs ⊆ uc := fun op h => Pipeline.sub_ucRefs op (by
  revert op; unfold ops1; simp)
/-- The second line runs over those buffers. -/
theorem ops2_sub : ∀ op ∈ ops2 (F := F), op.bufs ⊆ uc := fun op h => Pipeline.sub_ucRefs op (by
  revert op; unfold ops2; simp)
/-- The third line runs over those buffers. -/
theorem ops3_sub : ∀ op ∈ ops3 (F := F), op.bufs ⊆ uc := fun op h => Pipeline.sub_ucRefs op (by
  revert op; unfold ops3; simp)
/-- The last line runs over those buffers. -/
theorem ops4_sub : ∀ op ∈ ops4 (F := F), op.bufs ⊆ uc := fun op h => Pipeline.sub_ucRefs op (by
  revert op; unfold ops4; simp)
/-- The first line makes no buffer. -/
theorem ops1_fresh : ∀ op ∈ ops1 (F := F), op.fresh = ∅ := List.forall_iff_forall_mem.mp (StableHlo.forall_fresh_of_map rfl)
/-- The second line makes no buffer. -/
theorem ops2_fresh : ∀ op ∈ ops2 (F := F), op.fresh = ∅ := List.forall_iff_forall_mem.mp (StableHlo.forall_fresh_of_map rfl)
/-- The third line makes no buffer. -/
theorem ops3_fresh : ∀ op ∈ ops3 (F := F), op.fresh = ∅ := List.forall_iff_forall_mem.mp (StableHlo.forall_fresh_of_map rfl)
/-- The last line makes no buffer. -/
theorem ops4_fresh : ∀ op ∈ ops4 (F := F), op.fresh = ∅ := List.forall_iff_forall_mem.mp (StableHlo.forall_fresh_of_map rfl)

end Cert.Proof.Seg

end
-- ==== Proof.Groups.lean ====
/-
  What one vector subcore accumulates: its 3136 nodes go in 196 groups of sixteen, lane `r` of group `n` being the
  subcore's node `16 n + r`; each group adds `exp gate` to the denominator table and `exp gate * y` to the numerator
  table, lane `r` into row `r`, at the column its segment id names.
-/
module

public import proofs.«01_k».proof.Proof.Setup

@[expose] public section

noncomputable section

namespace Cert.Proof.Seg

open Cert.KernelIdeal Cert.KernelIdeal.Gen
open Idealize.ShloMosaic

variable {F : FTy → Type} [FloatOps F]

/-- Node `16 n + r` of a subcore's 3136. -/
def pos (n : ℕ) (x : S16.Idx) : S3136.Idx := fun a => ⟨(16 * n + (x 0).val) % 3136, by rw [Fin.eq_zero a]; exact Nat.mod_lt _ (by decide : 0 < 3136)⟩

/-- Group `n` of a subcore's array. -/
def chunk {α : Type} (f : S3136.Idx → α) (n : ℕ) : S16.Idx → α := fun x => f (pos n x)

/-- The lane numbers. -/
abbrev lane : IVec S16 32 := iota .scVector S16 32 [0] iota_S16_d0_w32_scVector

/-- A lane's number. -/
theorem lane_apply (x : S16.Idx) : (lane x).toNat = (x 0).val := by
  have : ∀ x : S16.Idx, (lane x).toNat = (x 0).val := by decide +kernel
  exact this x

/-- The ids name a column of the tables. -/
def IdsOK (ids : Vec F S3136 .i32) : Prop := ∀ j, (ids j : BitVec 32).toNat < 512

/-- A group's positions, lane against id, lie in the tables. -/
theorem groupIdx_inb {ids : Vec F S3136 .i32} (h : IdsOK ids) (n : ℕ) :
    ∀ a x, ((![lane, chunk ids n] : Fin 2 → IVec S16 32) a x).toNat < S16x513.size a := by
  intro a x
  match a with
  | 0 => show (lane x).toNat < 16; rw [lane_apply]; exact (x 0).isLt
  | 1 => exact Nat.lt_trans (h (pos n x)) (by decide)

/-- The denominator table after `n` groups, from `f₀`. -/
def denN (g : Vec F S3136 .f32) (ids : Vec F S3136 .i32) (h : IdsOK ids) (f₀ : Vec F S16x513 .f32) : ℕ → Vec F S16x513 .f32
  | 0 => f₀
  | n + 1 => storeIdx (denN g ids h f₀ n) ![lane, chunk ids n] (k1_pay1 (chunk g n)) (fun _ => 1#1) true (groupIdx_inb h n)

/-- The numerator table after `n` groups, from `f₀`. -/
def numN (g y : Vec F S3136 .f32) (ids : Vec F S3136 .i32) (h : IdsOK ids) (f₀ : Vec F S16x513 .f32) : ℕ → Vec F S16x513 .f32
  | 0 => f₀
  | n + 1 => storeIdx (numN g y ids h f₀ n) ![lane, chunk ids n] (k1_pay2 (chunk g n) (chunk y n)) (fun _ => 1#1) true (groupIdx_inb h n)

/-- The 512 columns of a table all zero; the 513th, which no id names and the result does not read, at anything. -/
def Zeroed (f : Vec F S16x513 .f32) : Prop := ∀ j : S16x513.Idx, (j 1).val < 512 → f j = Scalar.ofBits .f32 0x00000000#32

end Cert.Proof.Seg

end
-- ==== Proof.Tile.lean ====
/-
  One tile's task, at a symbolic SparseCore and subcore: its copies in, the tables set to zero, the loop over groups of sixteen
  nodes, and the copies out. It ends with its rows of the two tables at the sums of its groups.
-/
module

public import proofs.«01_k».proof.Proof.Groups

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "gV" => (Memref.whole Cert.KernelIdeal.main_v17_0_scv : Memref Cert.KernelIdeal.sig Kind.scVector Space.hbm Cert.KernelIdeal.S100352 EltTy.f32)
local notation "yV" => (Memref.whole Cert.KernelIdeal.main_v17_1_scv : Memref Cert.KernelIdeal.sig Kind.scVector Space.hbm Cert.KernelIdeal.S100352 EltTy.f32)
local notation "iV" => (Memref.whole Cert.KernelIdeal.main_v18_scv : Memref Cert.KernelIdeal.sig Kind.scVector Space.hbm Cert.KernelIdeal.S100352 EltTy.i32)
local notation "dV" => (Memref.whole Cert.KernelIdeal.main_v19_0_scv : Memref Cert.KernelIdeal.sig Kind.scVector Space.hbm Cert.KernelIdeal.S512x513 EltTy.f32)
local notation "nV" => (Memref.whole Cert.KernelIdeal.main_v19_1_scv : Memref Cert.KernelIdeal.sig Kind.scVector Space.hbm Cert.KernelIdeal.S512x513 EltTy.f32)
local notation "gS" => (Memref.whole Cert.KernelIdeal.cc1_scratch0 : Memref Cert.KernelIdeal.sig Kind.scVector Space.vmem Cert.KernelIdeal.S3136 EltTy.f32)
local notation "yS" => (Memref.whole Cert.KernelIdeal.cc1_scratch1 : Memref Cert.KernelIdeal.sig Kind.scVector Space.vmem Cert.KernelIdeal.S3136 EltTy.f32)
local notation "iS" => (Memref.whole Cert.KernelIdeal.cc1_scratch2 : Memref Cert.KernelIdeal.sig Kind.scVector Space.vmem Cert.KernelIdeal.S3136 EltTy.i32)
local notation "dS" => (Memref.whole Cert.KernelIdeal.cc1_scratch3 : Memref Cert.KernelIdeal.sig Kind.scVector Space.vmem Cert.KernelIdeal.S16x513 EltTy.f32)
local notation "nS" => (Memref.whole Cert.KernelIdeal.cc1_scratch4 : Memref Cert.KernelIdeal.sig Kind.scVector Space.vmem Cert.KernelIdeal.S16x513 EltTy.f32)

section Tile

variable (d : Dev nD) (L : grid1.Coords)

/-- The task's SparseCore. -/
abbrev cV (L : grid1.Coords) : Fin τ.nSC := (L 0).castLE hcore1
/-- The task's subcore. -/
abbrev jV (L : grid1.Coords) : Fin τ.nSub := (L 1).castLE hsub1
/-- The task's thread. -/
abbrev thr (d : Dev nD) (L : grid1.Coords) : Thread nD τ := V d (cV L) (jV L)

/-- One group of sixteen nodes, at offset `off` of the subcore's arrays: the loads of the gates, the `y`s and the ids, the
    ids' check, and the two scatter-adds. -/
def grp (off : Fin 1 → ℕ) (hoff : ∀ a, off a + S16.size a ≤ S3136.size a) :
    Prog (TpuEff nD τ sig (Elt F) Λ₀ (.scVector (cV L) (jV L))) PUnit := do
  let vg : Vec F S16 .f32 ← Prog.lift (.load gS (Rect.unit (s := S3136) off S16.size hoff).toLoadRect (View.loadsAt_vmem h_S16))
  let vy : Vec F S16 .f32 ← Prog.lift (.load yS (Rect.unit (s := S3136) off S16.size hoff).toLoadRect (View.loadsAt_vmem h_S16))
  let vi : Vec F S16 .i32 ← Prog.lift (.load iS (Rect.unit (s := S3136) off S16.size hoff).toLoadRect (View.loadsAt_vmem h_S16))
  have hw : k1_chk1 lane vi := (← Prog.lift (TpuEff.assume (k1_chk1 lane vi) (k1_chk1.dec lane vi))).down
  SparseCore.vectorStoreIdx dS ![lane, vi] (k1_pay1 vg) (fun _ => 1#1) true (k1_idx1_inb lane vi hw) (View.stores_vmem_bits_univ h_S16x513 rfl)
  SparseCore.vectorStoreIdx nS ![lane, vi] (k1_pay2 vg vy) (fun _ => 1#1) true (k1_idx2_inb lane vi hw) (View.stores_vmem_bits_univ h_S16x513 rfl)
  pure ⟨⟩

set_option maxRecDepth 65536 in
set_option maxHeartbeats 4000000 in
/-- A trip of the accumulation loop is fourteen groups. -/
theorem body_eq (k : Fin k1_t3_loop.trips) :
    k1_t3_body (F := F) L gV (Memref.isWhole_whole _) yV (Memref.isWhole_whole _) iV (Memref.isWhole_whole _) dV (Memref.isWhole_whole _) nV (Memref.isWhole_whole _)
            gS (Memref.isWhole_whole _) yS (Memref.isWhole_whole _) iS (Memref.isWhole_whole _) dS (Memref.isWhole_whole _) nS (Memref.isWhole_whole _)
            cc1_scratch5 cc1_scratch6 cc1_scratch7 cc1_scoped0 cc1_scoped1 lane k ()
      = (do
          grp L (k1_off3 k) (k1_off3_inb k); grp L (k1_off4 k) (k1_off4_inb k); grp L (k1_off5 k) (k1_off5_inb k)
          grp L (k1_off6 k) (k1_off6_inb k); grp L (k1_off7 k) (k1_off7_inb k); grp L (k1_off8 k) (k1_off8_inb k)
          grp L (k1_off9 k) (k1_off9_inb k); grp L (k1_off10 k) (k1_off10_inb k); grp L (k1_off11 k) (k1_off11_inb k)
          grp L (k1_off12 k) (k1_off12_inb k); grp L (k1_off13 k) (k1_off13_inb k); grp L (k1_off14 k) (k1_off14_inb k)
          grp L (k1_off15 k) (k1_off15_inb k); grp L (k1_off16 k) (k1_off16_inb k)
          pure ⟨⟩) := rfl

/-- A load of sixteen at `16 n` reads group `n`. -/
theorem read_chunk {e : EltTy} (b : Ref sig .scVector) (hb : b.ty = ⟨S3136, e⟩) (n : ℕ) (hn : n < 196) (off : Fin 1 → ℕ)
    (hoff : ∀ a, off a + S16.size a ≤ S3136.size a) (ho : off 0 = 16 * n) (f : S3136.Idx → Elt F e) (x : S16.Idx) :
    f ((Rect.unit (s := S3136) off S16.size hoff).toLoadRect.idx x) = chunk f n x := by
  unfold chunk; congr 1; funext a
  match a with
  | 0 =>
    refine Fin.ext ?_
    have := (x 0).isLt
    show off 0 + 1 * (x 0).val = (16 * n + (x 0).val) % 3136
    rw [ho, one_mul, Nat.mod_eq_of_lt]
    have : (x 0).val < 16 := (x 0).isLt
    omega

/-- A group of sixteen nodes adds itself to the two tables. -/
theorem wp_grp (n : ℕ) (hn : n < 196) (off : Fin 1 → ℕ) (hoff : ∀ a, off a + S16.size a ≤ S3136.size a) (ho : off 0 = 16 * n)
    (g y : Vec F S3136 .f32) (ids : Vec F S3136 .i32) (h : IdsOK ids) (f₀ e₀ : Vec F S16x513 .f32) :
    iprop(((gS).view.loc (thr d L) ↦{fullShare} g) ∗ ((yS).view.loc (thr d L) ↦{fullShare} y) ∗ ((iS).view.loc (thr d L) ↦{fullShare} ids)
        ∗ ((dS).view.loc (thr d L) ↦{fullShare} denN g ids h f₀ n) ∗ ((nS).view.loc (thr d L) ↦{fullShare} numN g y ids h e₀ n))
      ⊢ wp frame (wpE (defs₀ (F := F)) 𝒱₀ (thr d L) none) Set.univ (grp L off hoff)
          fun _ => (iprop(((gS).view.loc (thr d L) ↦{fullShare} g) ∗ ((yS).view.loc (thr d L) ↦{fullShare} y) ∗ ((iS).view.loc (thr d L) ↦{fullShare} ids)
        ∗ ((dS).view.loc (thr d L) ↦{fullShare} denN g ids h f₀ (n + 1)) ∗ ((nS).view.loc (thr d L) ↦{fullShare} numN g y ids h e₀ (n + 1))) : sProp 𝕄) := by
  unfold grp
  iintro ⟨Hg, Hy, Hi, Hd, Hn⟩
  sl_exec
  have eg : View.readAt (Elt F) (gS).view (Rect.unit (s := S3136) off S16.size hoff).toLoadRect g = chunk g n :=
    funext fun x => read_chunk (F := F) (e := .f32) cc1_scratch0 rfl n hn off hoff ho g x
  have ey : View.readAt (Elt F) (yS).view (Rect.unit (s := S3136) off S16.size hoff).toLoadRect y = chunk y n :=
    funext fun x => read_chunk (F := F) (e := .f32) cc1_scratch1 rfl n hn off hoff ho y x
  have ei : View.readAt (Elt F) (iS).view (Rect.unit (s := S3136) off S16.size hoff).toLoadRect ids = chunk ids n :=
    funext fun x => read_chunk (F := F) (e := .i32) cc1_scratch2 rfl n hn off hoff ho ids x
  rw [eg, ey, ei]
  have hw : k1_chk1 lane (chunk ids n) := ⟨groupIdx_inb h n, groupIdx_inb h n⟩
  rw [wp_assume_of _ _ _ _ hw]
  have hd : ((dS).access (.whole cc1_scratch3.ty.shape)).set = Finset.univ := Memref.set_access_whole _
  have hn' : ((nS).access (.whole cc1_scratch4.ty.shape)).set = Finset.univ := Memref.set_access_whole _
  iapply (SparseCore.wp_vectorStoreIdx (defs := defs₀ (F := F)) 𝒱₀ (thr d L) none Set.univ (base := dS)
    (f := denN g ids h f₀ n)) $$ [Hd]
  · rw [hd]; iexact Hd
  iintro Hd
  iapply (SparseCore.wp_vectorStoreIdx (defs := defs₀ (F := F)) 𝒱₀ (thr d L) none Set.univ (base := nS)
    (f := numN g y ids h e₀ n)) $$ [Hn]
  · rw [hn']; iexact Hn
  iintro Hn
  rw [hd, hn', Memref.write_access_whole_univ, Memref.read_access_whole, Memref.write_access_whole_univ, Memref.read_access_whole]
  sl_step
  isplitl [Hg]; · iexact Hg
  isplitl [Hy]; · iexact Hy
  isplitl [Hi]; · iexact Hi
  isplitl [Hd]; · iexact Hd
  iexact Hn

/-- The fourteen groups of trip `k`. -/
theorem wp_trip (k : Fin k1_t3_loop.trips) (g y : Vec F S3136 .f32) (ids : Vec F S3136 .i32) (h : IdsOK ids) (f₀ e₀ : Vec F S16x513 .f32) :
    iprop(((gS).view.loc (thr d L) ↦{fullShare} g) ∗ ((yS).view.loc (thr d L) ↦{fullShare} y) ∗ ((iS).view.loc (thr d L) ↦{fullShare} ids)
        ∗ ((dS).view.loc (thr d L) ↦{fullShare} denN g ids h f₀ (14 * k.val)) ∗ ((nS).view.loc (thr d L) ↦{fullShare} numN g y ids h e₀ (14 * k.val)))
      ⊢ wp frame (wpE (defs₀ (F := F)) 𝒱₀ (thr d L) none) Set.univ
          (k1_t3_body L gV (Memref.isWhole_whole _) yV (Memref.isWhole_whole _) iV (Memref.isWhole_whole _) dV (Memref.isWhole_whole _) nV (Memref.isWhole_whole _)
            gS (Memref.isWhole_whole _) yS (Memref.isWhole_whole _) iS (Memref.isWhole_whole _) dS (Memref.isWhole_whole _) nS (Memref.isWhole_whole _)
            cc1_scratch5 cc1_scratch6 cc1_scratch7 cc1_scoped0 cc1_scoped1 lane k ())
          fun _ => (iprop(((gS).view.loc (thr d L) ↦{fullShare} g) ∗ ((yS).view.loc (thr d L) ↦{fullShare} y) ∗ ((iS).view.loc (thr d L) ↦{fullShare} ids)
        ∗ ((dS).view.loc (thr d L) ↦{fullShare} denN g ids h f₀ (14 * (k.val + 1))) ∗ ((nS).view.loc (thr d L) ↦{fullShare} numN g y ids h e₀ (14 * (k.val + 1)))) : sProp 𝕄) := by
  have hk : k.val < 14 := lt_of_lt_of_le k.isLt k1_t3_abs.2.1
  rw [body_eq, show 14 * (k.val + 1) = 14 * k.val + 13 + 1 by omega]
  simp only [wp_bind]
  refine (wp_grp d L (14 * k.val) (by omega) _ _ (by rw [k1_off3_eq]; simp; omega) g y ids h f₀ e₀).trans (wp_mono frame _ _ fun _ => ?_)
  refine (wp_grp d L (14 * k.val + 1) (by omega) _ _ (by rw [k1_off4_eq]; simp; omega) g y ids h f₀ e₀).trans (wp_mono frame _ _ fun _ => ?_)
  refine (wp_grp d L (14 * k.val + 2) (by omega) _ _ (by rw [k1_off5_eq]; simp; omega) g y ids h f₀ e₀).trans (wp_mono frame _ _ fun _ => ?_)
  refine (wp_grp d L (14 * k.val + 3) (by omega) _ _ (by rw [k1_off6_eq]; simp; omega) g y ids h f₀ e₀).trans (wp_mono frame _ _ fun _ => ?_)
  refine (wp_grp d L (14 * k.val + 4) (by omega) _ _ (by rw [k1_off7_eq]; simp; omega) g y ids h f₀ e₀).trans (wp_mono frame _ _ fun _ => ?_)
  refine (wp_grp d L (14 * k.val + 5) (by omega) _ _ (by rw [k1_off8_eq]; simp; omega) g y ids h f₀ e₀).trans (wp_mono frame _ _ fun _ => ?_)
  refine (wp_grp d L (14 * k.val + 6) (by omega) _ _ (by rw [k1_off9_eq]; simp; omega) g y ids h f₀ e₀).trans (wp_mono frame _ _ fun _ => ?_)
  refine (wp_grp d L (14 * k.val + 7) (by omega) _ _ (by rw [k1_off10_eq]; simp; omega) g y ids h f₀ e₀).trans (wp_mono frame _ _ fun _ => ?_)
  refine (wp_grp d L (14 * k.val + 8) (by omega) _ _ (by rw [k1_off11_eq]; simp; omega) g y ids h f₀ e₀).trans (wp_mono frame _ _ fun _ => ?_)
  refine (wp_grp d L (14 * k.val + 9) (by omega) _ _ (by rw [k1_off12_eq]; simp; omega) g y ids h f₀ e₀).trans (wp_mono frame _ _ fun _ => ?_)
  refine (wp_grp d L (14 * k.val + 10) (by omega) _ _ (by rw [k1_off13_eq]; simp; omega) g y ids h f₀ e₀).trans (wp_mono frame _ _ fun _ => ?_)
  refine (wp_grp d L (14 * k.val + 11) (by omega) _ _ (by rw [k1_off14_eq]; simp; omega) g y ids h f₀ e₀).trans (wp_mono frame _ _ fun _ => ?_)
  refine (wp_grp d L (14 * k.val + 12) (by omega) _ _ (by rw [k1_off15_eq]; simp; omega) g y ids h f₀ e₀).trans (wp_mono frame _ _ fun _ => ?_)
  refine (wp_grp d L (14 * k.val + 13) (by omega) _ _ (by rw [k1_off16_eq]; simp; omega) g y ids h f₀ e₀).trans (wp_mono frame _ _ fun _ => ?_)
  iintro H
  sl_step
  iexact H

/-- The tables are zero in their first `n` blocks of sixteen columns, counted along the rows, 32 blocks to a row. -/
def ZeroTo (n : ℕ) (f : Vec F S16x513 .f32) : Prop :=
  ∀ j : S16x513.Idx, (j 1).val < 512 → 32 * (j 0).val + (j 1).val / 16 < n → f j = Scalar.ofBits .f32 0x00000000#32

/-- The zeroing's invariant: both tables zero in their first `n` blocks. -/
def zinv (n : ℕ) : sProp 𝕄 :=
  iprop((∃ f, ⌜ZeroTo n f⌝ ∗ ((dS).view.loc (thr d L) ↦{fullShare} f)) ∗ (∃ f, ⌜ZeroTo n f⌝ ∗ ((nS).view.loc (thr d L) ↦{fullShare} f)))

/-- Zeroing one more block. -/
theorem zero_step (v : View sig .scVector .vmem S16x513 .f32) (f : v.ty.Contents (Elt F)) (r : Fin k1_t1_loop.trips) (c : Fin k1_t2_loop.trips)
    (h : ZeroTo (F := F) (32 * r.val + c.val) (v.read (Elt F) f)) :
    ZeroTo (F := F) (32 * r.val + (c.val + 1)) (v.read (Elt F) (v.writes (Elt F) f
      [⟨Rect.unit (s := S16x513) (k1_off2 r c) S1x16.size (k1_off2_inb r c), shapeCast S1x16 (k1_pay28 (F := F)) shapeCasts_S16_S1x16⟩])) := by
  intro j h1 h2
  have hoff := k1_off2_eq r c
  have hr : r.val < 16 := lt_of_lt_of_le r.isLt k1_t1_abs.2.1
  have hc : c.val < 32 := lt_of_lt_of_le c.isLt k1_t2_abs.2.1
  by_cases hb : (j 0).val = r.val ∧ (j 1).val / 16 = c.val
  · let x : S1x16.Idx := fun a => match a with
      | 0 => ⟨0, by decide⟩
      | 1 => ⟨(j 1).val % 16, Nat.mod_lt _ (by decide)⟩
    rw [View.read_writes_cons_hit_of_coords v f _ _ [] x j]
    · rfl
    · intro a
      show (j a).val = k1_off2 r c a + 1 * (x a).val
      rw [hoff]
      match a with
      | 0 => show (j 0).val = r.val + 1 * 0; omega
      | 1 => show (j 1).val = 16 * c.val + 1 * ((j 1).val % 16); omega
  · have hlt : 32 * (j 0).val + (j 1).val / 16 < 32 * r.val + c.val := by
      by_contra hn
      apply hb
      have : (j 1).val / 16 < 32 := by omega
      omega
    have hmiss : v.read (Elt F) (v.writes (Elt F) f
        [⟨Rect.unit (s := S16x513) (k1_off2 r c) S1x16.size (k1_off2_inb r c), shapeCast S1x16 (k1_pay28 (F := F)) shapeCasts_S16_S1x16⟩]) j = v.read (Elt F) f j := by
      by_cases h0 : (j 0).val = r.val
      · exact View.read_writes_cons_miss_of_axis v f _ [] j 1 (16 * c.val) 16 (by show k1_off2 r c 1 = _; rw [hoff]; rfl) rfl rfl (by omega)
      · exact View.read_writes_cons_miss_of_axis v f _ [] j 0 r.val 1 (by show k1_off2 r c 0 = _; rw [hoff]; rfl) rfl rfl (by omega)
    rw [hmiss]; exact h j h1 hlt

/-- One trip of the inner zeroing loop. -/
theorem wp_zero (r : Fin k1_t1_loop.trips) (c : Fin k1_t2_loop.trips) :
    zinv (F := F) d L (32 * r.val + c.val)
      ⊢ wp frame (wpE (defs₀ (F := F)) 𝒱₀ (thr d L) none) Set.univ
          (k1_t2_body L gV (Memref.isWhole_whole _) yV (Memref.isWhole_whole _) iV (Memref.isWhole_whole _) dV (Memref.isWhole_whole _) nV (Memref.isWhole_whole _)
            gS (Memref.isWhole_whole _) yS (Memref.isWhole_whole _) iS (Memref.isWhole_whole _) dS (Memref.isWhole_whole _) nS (Memref.isWhole_whole _)
            cc1_scratch5 cc1_scratch6 cc1_scratch7 cc1_scoped0 cc1_scoped1 r c ())
          fun _ => zinv (F := F) d L (32 * r.val + (c.val + 1)) := by
  unfold zinv k1_t2_body
  iintro ⟨⟨%f, %hf, Hd⟩, ⟨%f', %hf', Hn⟩⟩
  sl_exec
  sl_step
  isplitl [Hd]
  · iexists _; isplitr; swap; · iexact Hd
    ipureintro; exact zero_step (dS).view f r c hf
  · iexists _; isplitr; swap; · iexact Hn
    ipureintro; exact zero_step (nS).view f' r c hf'

/-- One trip of the outer zeroing loop: a row. -/
theorem wp_zero_row (r : Fin k1_t1_loop.trips) :
    zinv (F := F) d L (32 * r.val)
      ⊢ wp frame (wpE (defs₀ (F := F)) 𝒱₀ (thr d L) none) Set.univ
          (k1_t1_body L gV (Memref.isWhole_whole _) yV (Memref.isWhole_whole _) iV (Memref.isWhole_whole _) dV (Memref.isWhole_whole _) nV (Memref.isWhole_whole _)
            gS (Memref.isWhole_whole _) yS (Memref.isWhole_whole _) iS (Memref.isWhole_whole _) dS (Memref.isWhole_whole _) nS (Memref.isWhole_whole _)
            cc1_scratch5 cc1_scratch6 cc1_scratch7 cc1_scoped0 cc1_scoped1 r ())
          fun _ => zinv (F := F) d L (32 * (r.val + 1)) := by
  unfold k1_t1_body
  iintro H
  sl_for (fun c _ => zinv (F := F) d L (32 * r.val + c)) $$ [H]
  case region =>
    intro c _
    exact wp_zero d L r c
  · iexact H
  iintro %_ HI
  sl_step
  rw [show 32 * (r.val + 1) = 32 * r.val + k1_t2_loop.trips by rw [show k1_t2_loop.trips = 32 by decide +kernel]; omega]
  iexact HI

/-! ## The task's operands -/

/-- The gates' array. -/
abbrev gLoc (d : Dev nD) : Loc nD τ sig := (SparseCore.T d).loc main_v17_0
/-- The values' array. -/
abbrev yLoc (d : Dev nD) : Loc nD τ sig := (SparseCore.T d).loc main_v17_1
/-- The ids' array. -/
abbrev iLoc (d : Dev nD) : Loc nD τ sig := (SparseCore.T d).loc main_v18
/-- The denominators' table. -/
abbrev dLoc (d : Dev nD) : Loc nD τ sig := (SparseCore.T d).loc main_v19_0
/-- The numerators' table. -/
abbrev nLoc (d : Dev nD) : Loc nD τ sig := (SparseCore.T d).loc main_v19_1

/-- The subcore's nodes. -/
abbrev rowRect (L : grid1.Coords) : Rect S100352 := Rect.unit (s := S100352) (k1_off1 L) S3136.size (k1_off1_inb L)
/-- The subcore's rows of the tables. -/
abbrev outRect (L : grid1.Coords) : Rect S512x513 := Rect.unit (s := S512x513) (k1_off17 L) S16x513.size (k1_off17_inb L)
/-- The subcore's 3136 nodes of each input, and its sixteen rows of each output. -/
abbrev gSl (L : grid1.Coords) : Memref sig .scVector .hbm S3136 .f32 := (gV).slice (rowRect L) (fun _ => rfl)
/-- Its nodes of the values. -/
abbrev ySl (L : grid1.Coords) : Memref sig .scVector .hbm S3136 .f32 := (yV).slice (rowRect L) (fun _ => rfl)
/-- Its nodes of the ids. -/
abbrev iSl (L : grid1.Coords) : Memref sig .scVector .hbm S3136 .i32 := (iV).slice (rowRect L) (fun _ => rfl)
/-- Its rows of the denominators. -/
abbrev dSl (L : grid1.Coords) : Memref sig .scVector .hbm S16x513 .f32 := (dV).slice (outRect L) (fun _ => rfl)
/-- Its rows of the numerators. -/
abbrev nSl (L : grid1.Coords) : Memref sig .scVector .hbm S16x513 .f32 := (nV).slice (outRect L) (fun _ => rfl)

/-- A node array at the subcore's nodes. -/
def rowOf {α : Type} (L : grid1.Coords) (f : S100352.Idx → α) : S3136.Idx → α := fun x => f ((rowRect L).emb x)
/-- An output table at the subcore's rows. -/
def outOf {α : Type} (L : grid1.Coords) (f : S512x513.Idx → α) : S16x513.Idx → α := fun x => f ((outRect L).emb x)

/-- The subcore's rows of the two output tables are the sums of its groups over tables zero in the 512 columns. -/
def TileOut (L : grid1.Coords) (g y : Vec F S100352 .f32) (ids : Vec F S100352 .i32) (den num : Vec F S512x513 .f32) : Prop :=
  ∃ (h : IdsOK (rowOf L ids)) (f₀ e₀ : Vec F S16x513 .f32), Zeroed f₀ ∧ Zeroed e₀
    ∧ outOf L den = denN (rowOf L g) (rowOf L ids) h f₀ 196 ∧ outOf L num = numN (rowOf L g) (rowOf L y) (rowOf L ids) h e₀ 196

/-- The subcore's gates, held. -/
abbrev gPts (L : grid1.Coords) (f : Buf (Elt F) (gLoc d)) : sProp 𝕄 := gLoc d ↦[(gSl L).view.set]{fullShare} f
/-- The subcore's values, held. -/
abbrev yPts (L : grid1.Coords) (f : Buf (Elt F) (yLoc d)) : sProp 𝕄 := yLoc d ↦[(ySl L).view.set]{fullShare} f
/-- The subcore's ids, held. -/
abbrev iPts (L : grid1.Coords) (f : Buf (Elt F) (iLoc d)) : sProp 𝕄 := iLoc d ↦[(iSl L).view.set]{fullShare} f
/-- The subcore's rows of the denominators, held. -/
abbrev dPts (L : grid1.Coords) (f : Buf (Elt F) (dLoc d)) : sProp 𝕄 := dLoc d ↦[(dSl L).view.set]{fullShare} f
/-- The subcore's rows of the numerators, held. -/
abbrev nPts (L : grid1.Coords) (f : Buf (Elt F) (nLoc d)) : sProp 𝕄 := nLoc d ↦[(nSl L).view.set]{fullShare} f

/-- A semaphore of the subcore. -/
abbrev cell (d : Dev nD) (L : grid1.Coords) (s : DmaSems sig S_) : GSem nD τ sig := (thr d L, .dma s.sem)

/-- The subcore's semaphores at zero, one by one. -/
theorem ownSems0_V :
    (ownSems0 (thr d L) : sProp 𝕄)
      = iprop(semVal (cell d L cc1_scratch5) 0 ∗ semVal (cell d L cc1_scratch6) 0 ∗ semVal (cell d L cc1_scratch7) 0
          ∗ semVal (cell d L cc1_scoped0) 0 ∗ semVal (cell d L cc1_scoped1) 0
          ∗ bigSep ((((((ownCells (thr d L)).erase (cell d L cc1_scratch5)).erase (cell d L cc1_scratch6)).erase (cell d L cc1_scratch7)).erase (cell d L cc1_scoped0)).erase (cell d L cc1_scoped1)) fun g => semVal g 0) := by
  have mem : ∀ s : DmaSems sig S_, (SemLoc.dma s.sem : SemLoc sig).isScoped .scVector = true → cell d L s ∈ ownCells (thr d L) :=
    fun s hs => (mem_ownCells (g := cell d L s)).mpr ⟨rfl, hs⟩
  have ne : ∀ s s' : DmaSems sig S_, (SemLoc.dma s.sem : SemLoc sig) ≠ .dma s'.sem → cell d L s ≠ cell d L s' :=
    fun s s' h e => h (congrArg Prod.snd e)
  have h5 := mem cc1_scratch5 (by decide)
  have h6 := mem cc1_scratch6 (by decide)
  have h7 := mem cc1_scratch7 (by decide)
  have h8 := mem cc1_scoped0 (by decide)
  have h9 := mem cc1_scoped1 (by decide)
  have n65 := ne cc1_scratch6 cc1_scratch5 (by decide)
  have n75 := ne cc1_scratch7 cc1_scratch5 (by decide)
  have n76 := ne cc1_scratch7 cc1_scratch6 (by decide)
  have n85 := ne cc1_scoped0 cc1_scratch5 (by decide)
  have n86 := ne cc1_scoped0 cc1_scratch6 (by decide)
  have n87 := ne cc1_scoped0 cc1_scratch7 (by decide)
  have n95 := ne cc1_scoped1 cc1_scratch5 (by decide)
  have n96 := ne cc1_scoped1 cc1_scratch6 (by decide)
  have n97 := ne cc1_scoped1 cc1_scratch7 (by decide)
  have n98 := ne cc1_scoped1 cc1_scoped0 (by decide)
  unfold SparseCore.Cfg.ownSems0
  rw [SparseCore.bigSep_erase' h5, SparseCore.bigSep_erase' (Finset.mem_erase.mpr ⟨n65, h6⟩),
    SparseCore.bigSep_erase' (Finset.mem_erase.mpr ⟨n76, Finset.mem_erase.mpr ⟨n75, h7⟩⟩),
    SparseCore.bigSep_erase' (Finset.mem_erase.mpr ⟨n87, Finset.mem_erase.mpr ⟨n86, Finset.mem_erase.mpr ⟨n85, h8⟩⟩⟩),
    SparseCore.bigSep_erase' (Finset.mem_erase.mpr ⟨n98, Finset.mem_erase.mpr ⟨n97, Finset.mem_erase.mpr ⟨n96, Finset.mem_erase.mpr ⟨n95, h9⟩⟩⟩⟩)]

/-- The subcore's scratch buffers other than the five the kernel names. -/
abbrev restBufs (L : grid1.Coords) : Finset (DevRef τ sig) :=
  (((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)).erase ((Proc.scVector (cV L) (jV L)).devRef cc1_scratch4)

/-- The subcore's scratch buffers, one by one. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f)
          ∗ bigSep (restBufs L) fun b => iprop(∃ f, ((d, b) : Loc nD τ sig) ↦{fullShare} f)) := by
  have mem : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) :=
    fun b hb => SparseCore.Cfg.mem_ownRefs_of_owner (p := Proc.scVector (cV L) (jV L)) (b := (Proc.scVector (cV L) (jV L)).devRef b) hb
  have ne : ∀ b b' : Ref sig .scVector, b ≠ b' → (Proc.scVector (cV L) (jV L)).devRef b ≠ (Proc.scVector (cV L) (jV L)).devRef b' :=
    fun b b' h e => h (Proc.devRef_injective _ e)
  have h0 := mem cc1_scratch0 rfl
  have h1 := mem cc1_scratch1 rfl
  have h2 := mem cc1_scratch2 rfl
  have h3 := mem cc1_scratch3 rfl
  have h4 := mem cc1_scratch4 rfl
  have n10 := ne cc1_scratch1 cc1_scratch0 (by decide)
  have n20 := ne cc1_scratch2 cc1_scratch0 (by decide)
  have n21 := ne cc1_scratch2 cc1_scratch1 (by decide)
  have n30 := ne cc1_scratch3 cc1_scratch0 (by decide)
  have n31 := ne cc1_scratch3 cc1_scratch1 (by decide)
  have n32 := ne cc1_scratch3 cc1_scratch2 (by decide)
  have n40 := ne cc1_scratch4 cc1_scratch0 (by decide)
  have n41 := ne cc1_scratch4 cc1_scratch1 (by decide)
  have n42 := ne cc1_scratch4 cc1_scratch2 (by decide)
  have n43 := ne cc1_scratch4 cc1_scratch3 (by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩),
    SparseCore.bigSep_erase' (Finset.mem_erase.mpr ⟨n43, Finset.mem_erase.mpr ⟨n42, Finset.mem_erase.mpr ⟨n41, Finset.mem_erase.mpr ⟨n40, h4⟩⟩⟩⟩)]

set_option maxHeartbeats 4000000 in
/-- The task on one vector subcore: its nodes fetched, its tables zeroed, the groups added, the tables written out. -/
theorem tile_body (hF : (K (F := F)).Facts) (g : Buf (Elt F) (gLoc d)) (y : Buf (Elt F) (yLoc d)) (ids : Buf (Elt F) (iLoc d))
    (hids : ∀ j, (ids j : BitVec 32).toNat < 512)
    (O : CellTallies nD τ sig (HIx 1)) (W : Waits sig (HIx 1)) (hO : ∀ g, O g none = 0) :
    iprop(levAts (K (F := F)).L (K (F := F)).lev ∗ emp
        ∗ (gPts d L g ∗ yPts d L y ∗ iPts d L ids ∗ (∃ f, dPts d L f) ∗ (∃ f, nPts d L f))
        ∗ scopedBufs (thr d L) ∗ scopedSems0 (thr d L) ∗ owes (thr d L) O W)
      ⊢ wp frame (wpE (defs₀ (F := F)) 𝒱₀ (thr d L) none) Set.univ
          (cc1__seg_sc_body L gV (Memref.isWhole_whole _) yV (Memref.isWhole_whole _) iV (Memref.isWhole_whole _) dV (Memref.isWhole_whole _) nV (Memref.isWhole_whole _)
            gS (Memref.isWhole_whole _) yS (Memref.isWhole_whole _) iS (Memref.isWhole_whole _) dS (Memref.isWhole_whole _) nS (Memref.isWhole_whole _)
            cc1_scratch5 cc1_scratch6 cc1_scratch7 cc1_scoped0 cc1_scoped1)
          fun _ => iprop((gPts d L g ∗ yPts d L y ∗ iPts d L ids ∗ ∃ den num, ⌜TileOut L g y ids den num⌝ ∗ dPts d L den ∗ nPts d L num)
            ∗ scopedBufs (thr d L) ∗ scopedSems0 (thr d L)
            ∗ ∃ W', ⌜∀ p ∈ W', p ∈ W ∨ p.2 = none⌝ ∗ owes (thr d L) O W') := by
  simp only [cc1__seg_sc_body_eq_skeleton]; unfold cc1__seg_sc_body_skel
  simp only [k1_part5_eq_skeleton]; unfold k1_part5_skel
  simp only [bind_assoc, pure_bind]
  rw [(K (F := F)).scopedBufs_V hF d (cV L) (jV L), SparseCore.Cfg.scopedSems0_V (Val := Elt F) d (cV L) (jV L), ownSems0_V, ownBufs_V]
  iintro ⟨#Hlv, -, ⟨Hg, Hy, Hi, ⟨%fd, Hd⟩, ⟨%fn, Hn⟩⟩, ⟨⟨%s0, Hs0⟩, ⟨%s1, Hs1⟩, ⟨%s2, Hs2⟩, ⟨%s3, Hs3⟩, ⟨%s4, Hs4⟩, Hbufs⟩, ⟨Hm5, Hm6, Hm7, Hm8, Hm9, Hsems⟩, HO⟩
  ihave Hmw := (show levAts (K (F := F)).L (K (F := F)).lev ⊢ Transfers.MayWaits (thr d L) (default : HIx 1) O from
    (K (F := F)).mayWaits_none (thr := thr d L) hO) $$ Hlv
  ihave Hg' := (Entails.of_eq (show (gLoc d ↦[(gSl L).view.set]{fullShare} g : sProp 𝕄) = ((gSl L).view.loc (thr d L) ↦[(gSl L).view.set]{fullShare} g) from rfl)) $$ Hg
  ihave Hy' := (Entails.of_eq (show (yLoc d ↦[(ySl L).view.set]{fullShare} y : sProp 𝕄) = ((ySl L).view.loc (thr d L) ↦[(ySl L).view.set]{fullShare} y) from rfl)) $$ Hy
  ihave Hi' := (Entails.of_eq (show (iLoc d ↦[(iSl L).view.set]{fullShare} ids : sProp 𝕄) = ((iSl L).view.loc (thr d L) ↦[(iSl L).view.set]{fullShare} ids) from rfl)) $$ Hi
  ihave Hd' := (Entails.of_eq (show (dLoc d ↦[(dSl L).view.set]{fullShare} fd : sProp 𝕄) = ((dSl L).view.loc (thr d L) ↦[(dSl L).view.set]{fullShare} fd) from rfl)) $$ Hd
  ihave Hn' := (Entails.of_eq (show (nLoc d ↦[(nSl L).view.set]{fullShare} fn : sProp 𝕄) = ((nSl L).view.loc (thr d L) ↦[(nSl L).view.set]{fullShare} fn) from rfl)) $$ Hn
  ihave Hs0' := (Entails.of_eq (show ((thr d L).loc cc1_scratch0 ↦{fullShare} s0 : sProp 𝕄) = ((gS).view.loc (thr d L) ↦{fullShare} s0) from rfl)) $$ Hs0
  ihave Hs1' := (Entails.of_eq (show ((thr d L).loc cc1_scratch1 ↦{fullShare} s1 : sProp 𝕄) = ((yS).view.loc (thr d L) ↦{fullShare} s1) from rfl)) $$ Hs1
  ihave Hs2' := (Entails.of_eq (show ((thr d L).loc cc1_scratch2 ↦{fullShare} s2 : sProp 𝕄) = ((iS).view.loc (thr d L) ↦{fullShare} s2) from rfl)) $$ Hs2
  ihave Hs3' := (Entails.of_eq (show ((thr d L).loc cc1_scratch3 ↦{fullShare} s3 : sProp 𝕄) = ((dS).view.loc (thr d L) ↦{fullShare} s3) from rfl)) $$ Hs3
  ihave Hs4' := (Entails.of_eq (show ((thr d L).loc cc1_scratch4 ↦{fullShare} s4 : sProp 𝕄) = ((nS).view.loc (thr d L) ↦{fullShare} s4) from rfl)) $$ Hs4
  sl_exec
  sl_for (fun r _ => zinv (F := F) d L (32 * r)) $$ [Hs3' Hs4']
  case region =>
    intro r _
    exact wp_zero_row d L r
  · unfold zinv
    isplitl [Hs3']
    · iexists s3; isplitr; swap; · iexact Hs3'
      ipureintro; exact fun j _ h => absurd h (Nat.not_lt_zero _)
    · iexists s4; isplitr; swap; · iexact Hs4'
      ipureintro; exact fun j _ h => absurd h (Nat.not_lt_zero _)
  iintro %_ HI
  unfold zinv
  icases HI with ⟨⟨%f₀, %hf₀, Hs3⟩, ⟨%e₀, %he₀, Hs4⟩⟩
  have hz₀ : Zeroed (F := F) f₀ := fun j hj => hf₀ j hj (by
    have h0 : (j 0).val < 16 := (j 0).isLt
    have ht : k1_t1_loop.trips = 16 := by decide +kernel
    show _ < 32 * k1_t1_loop.trips
    omega)
  have hz₁ : Zeroed (F := F) e₀ := fun j hj => he₀ j hj (by
    have h0 : (j 0).val < 16 := (j 0).isLt
    have ht : k1_t1_loop.trips = 16 := by decide +kernel
    show _ < 32 * k1_t1_loop.trips
    omega)
  have hI : IdsOK (F := F) (rowOf L ids) := fun j => hids _
  sl_exec
  ihave Hs0 := (Entails.of_eq (congrArg (fun f => ((gS).view.loc (thr d L) ↦{fullShare} f : sProp 𝕄))
    (show View.write (Elt F) (gS).view s0 (tile_body.sl.dma0 d L g) Finset.univ = rowOf L g from View.write_whole_univ _ _ _))) $$ Hs0'
  ihave Hs1 := (Entails.of_eq (congrArg (fun f => ((yS).view.loc (thr d L) ↦{fullShare} f : sProp 𝕄))
    (show View.write (Elt F) (yS).view s1 (tile_body.sl.dma0_1 d L y) Finset.univ = rowOf L y from View.write_whole_univ _ _ _))) $$ Hs1'
  ihave Hs2 := (Entails.of_eq (congrArg (fun f => ((iS).view.loc (thr d L) ↦{fullShare} f : sProp 𝕄))
    (show View.write (Elt F) (iS).view s2 (tile_body.sl.dma0_2 d L ids) Finset.univ = rowOf L ids from View.write_whole_univ _ _ _))) $$ Hs2'
  sl_for (fun k _ => iprop(((gS).view.loc (thr d L) ↦{fullShare} rowOf L g) ∗ ((yS).view.loc (thr d L) ↦{fullShare} rowOf L y)
      ∗ ((iS).view.loc (thr d L) ↦{fullShare} rowOf L ids)
      ∗ ((dS).view.loc (thr d L) ↦{fullShare} denN (rowOf L g) (rowOf L ids) hI f₀ (14 * k))
      ∗ ((nS).view.loc (thr d L) ↦{fullShare} numN (rowOf L g) (rowOf L y) (rowOf L ids) hI e₀ (14 * k)))) $$ [Hs0 Hs1 Hs2 Hs3 Hs4]
  case region =>
    intro k _
    exact wp_trip d L k _ _ _ hI f₀ e₀
  · isplitl [Hs0]; · iexact Hs0
    isplitl [Hs1]; · iexact Hs1
    isplitl [Hs2]; · iexact Hs2
    isplitl [Hs3]; · iexact Hs3
    iexact Hs4
  iintro %_ HI
  rw [show 14 * k1_t3_loop.trips = 196 by decide +kernel]
  icases HI with ⟨Hs0, Hs1, Hs2, Hs3, Hs4⟩
  sl_exec
  sl_step
  isplitl [Hg' Hy' Hi' Hd' Hn']
  · isplitl [Hg']; · iexact Hg'
    isplitl [Hy']; · iexact Hy'
    isplitl [Hi']; · iexact Hi'
    iexists _; iexists _
    isplitr; swap
    · isplitl [Hd']; · iexact Hd'
      iexact Hn'
    ipureintro
    exact ⟨hI, f₀, e₀, hz₀, hz₁,
      funext fun x => View.read_writes_cons_hit_of_coords (dSl L).view fd (Rect.whole S16x513) _ [] x x (fun a => by simp [Rect.whole]),
      funext fun x => View.read_writes_cons_hit_of_coords (nSl L).view fn (Rect.whole S16x513) _ [] x x (fun a => by simp [Rect.whole])⟩
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [Hm5 Hm6 Hm7 Hm8 Hm9 Hsems]
  · isplitl [Hm5]; · iexact Hm5
    isplitl [Hm6]; · iexact Hm6
    isplitl [Hm7]; · iexact Hm7
    isplitl [Hm8]; · iexact Hm8
    isplitl [Hm9]; · iexact Hm9
    iexact Hsems
  iexists _; isplitr; swap; · iexact HO
  ipureintro
  intro p hp
  simp only [Finset.mem_insert] at hp
  rcases hp with h | h | h | h | h | h
  all_goals first | exact .inl h | exact .inr (by rw [h]; rfl)

end Tile
end Cert.Proof.Seg
end
-- ==== Proof.Call.lean ====
/-
  The SparseCore call: what each subcore is handed and what it brings back, the task's obligation from the task's
  proof, and the arrays cut into the subcores' parts before the call and joined after it.
-/
module

public import proofs.«01_k».proof.Proof.Tile

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "gV" => (Memref.whole Cert.KernelIdeal.main_v17_0_scv : Memref Cert.KernelIdeal.sig Kind.scVector Space.hbm Cert.KernelIdeal.S100352 EltTy.f32)
local notation "yV" => (Memref.whole Cert.KernelIdeal.main_v17_1_scv : Memref Cert.KernelIdeal.sig Kind.scVector Space.hbm Cert.KernelIdeal.S100352 EltTy.f32)
local notation "iV" => (Memref.whole Cert.KernelIdeal.main_v18_scv : Memref Cert.KernelIdeal.sig Kind.scVector Space.hbm Cert.KernelIdeal.S100352 EltTy.i32)
local notation "dV" => (Memref.whole Cert.KernelIdeal.main_v19_0_scv : Memref Cert.KernelIdeal.sig Kind.scVector Space.hbm Cert.KernelIdeal.S512x513 EltTy.f32)
local notation "nV" => (Memref.whole Cert.KernelIdeal.main_v19_1_scv : Memref Cert.KernelIdeal.sig Kind.scVector Space.hbm Cert.KernelIdeal.S512x513 EltTy.f32)
local notation "gS" => (Memref.whole Cert.KernelIdeal.cc1_scratch0 : Memref Cert.KernelIdeal.sig Kind.scVector Space.vmem Cert.KernelIdeal.S3136 EltTy.f32)
local notation "yS" => (Memref.whole Cert.KernelIdeal.cc1_scratch1 : Memref Cert.KernelIdeal.sig Kind.scVector Space.vmem Cert.KernelIdeal.S3136 EltTy.f32)
local notation "iS" => (Memref.whole Cert.KernelIdeal.cc1_scratch2 : Memref Cert.KernelIdeal.sig Kind.scVector Space.vmem Cert.KernelIdeal.S3136 EltTy.i32)
local notation "dS" => (Memref.whole Cert.KernelIdeal.cc1_scratch3 : Memref Cert.KernelIdeal.sig Kind.scVector Space.vmem Cert.KernelIdeal.S16x513 EltTy.f32)
local notation "nS" => (Memref.whole Cert.KernelIdeal.cc1_scratch4 : Memref Cert.KernelIdeal.sig Kind.scVector Space.vmem Cert.KernelIdeal.S16x513 EltTy.f32)

/-- Facts that hold of each part of a separating product, taken out in front of it. -/
theorem bigSep_pure_out {I : Type} (s : Finset I) (φ : I → Prop) (Φ : I → sProp 𝕄) :
    bigSep s (fun i => iprop(⌜φ i⌝ ∗ Φ i)) ⊢ iprop(⌜∀ i ∈ s, φ i⌝ ∗ bigSep s Φ) := by
  classical
  induction s using Finset.induction_on with
  | empty =>
    rw [bigSep_empty, bigSep_empty]; iintro H
    isplitr; · ipureintro; exact fun i h => absurd h (Finset.notMem_empty i)
    iexact H
  | insert a s ha ih =>
    rw [SparseCore.bigSep_insert' ha, SparseCore.bigSep_insert' ha]
    iintro ⟨⟨%h, Ha⟩, Hs⟩
    ihave Hs' := ih $$ Hs
    icases Hs' with ⟨%hs, Hs⟩
    isplitr
    · ipureintro; exact fun i hi => (Finset.mem_insert.mp hi).elim (fun e => e ▸ h) (hs i)
    isplitl [Ha]; · iexact Ha
    iexact Hs

/-- The grid coordinates of subcore `s` of SparseCore `c`. -/
def coordsV (c : Fin 2) (s : Fin 16) : grid1.Coords :=
  fun | 0 => c | 1 => s | ⟨_ + 2, h⟩ => absurd h (Nat.not_lt.2 (Nat.le_add_left _ _))

/-- The coordinates as a pair. -/
abbrev coordsP (p : Fin 2 × Fin 16) : grid1.Coords := coordsV p.1 p.2

/-! ## The subcores' parts of the arrays -/

/-- Where a subcore's nodes begin. -/
theorem off1_val (p : Fin 2 × Fin 16) : k1_off1 (coordsP p) 0 = 50176 * p.1.val + 3136 * p.2.val := by rw [k1_off1_eq]; rfl
/-- The first of a subcore's rows of the tables. -/
theorem off17_val (p : Fin 2 × Fin 16) : k1_off17 (coordsP p) 0 = 256 * p.1.val + 16 * p.2.val := by rw [k1_off17_eq]; rfl
/-- A subcore's rows begin at column 0. -/
theorem off17_val1 (p : Fin 2 × Fin 16) : k1_off17 (coordsP p) 1 = 0 := by rw [k1_off17_eq]; rfl

/-- Two subcores' nodes do not overlap. -/
theorem row_disjoint (p p' : Fin 2 × Fin 16) (h : p ≠ p') : Disjoint (rowRect (coordsP p)).set (rowRect (coordsP p')).set := by
  refine Rect.unit_disjoint 0 ?_
  rw [off1_val, off1_val]
  show _ + 3136 ≤ _ ∨ _ + 3136 ≤ _
  have hne : p.1.val ≠ p'.1.val ∨ p.2.val ≠ p'.2.val := by
    by_contra hc; simp only [not_or, not_not] at hc
    exact h (Prod.ext (Fin.ext hc.1) (Fin.ext hc.2))
  have := p.1.isLt; have := p'.1.isLt; have := p.2.isLt; have := p'.2.isLt
  omega

/-- Two subcores' rows of the tables do not overlap. -/
theorem out_disjoint (p p' : Fin 2 × Fin 16) (h : p ≠ p') : Disjoint (outRect (coordsP p)).set (outRect (coordsP p')).set := by
  refine Rect.unit_disjoint 0 ?_
  rw [off17_val, off17_val]
  show _ + 16 ≤ _ ∨ _ + 16 ≤ _
  have hne : p.1.val ≠ p'.1.val ∨ p.2.val ≠ p'.2.val := by
    by_contra hc; simp only [not_or, not_not] at hc
    exact h (Prod.ext (Fin.ext hc.1) (Fin.ext hc.2))
  have := p.1.isLt; have := p'.1.isLt; have := p.2.isLt; have := p'.2.isLt
  omega

/-- The subcores' nodes are all the nodes. -/
theorem row_cover : (Finset.univ : Finset (Fin 2 × Fin 16)).biUnion (fun p => (rowRect (coordsP p)).set) = Finset.univ := by
  refine Finset.eq_univ_iff_forall.mpr fun x => Finset.mem_biUnion.mpr ?_
  have hx : (x 0).val < 100352 := (x 0).isLt
  refine ⟨(⟨(x 0).val / 50176, by omega⟩, ⟨(x 0).val % 50176 / 3136, by omega⟩), Finset.mem_univ _, Rect.mem_set_unit.mpr fun a => ?_⟩
  rw [Fin.eq_zero a, off1_val]
  show _ ≤ _ ∧ _ < _ + 3136
  constructor <;> simp only <;> omega

/-- The subcores' rows are all the rows of the tables. -/
theorem out_cover : (Finset.univ : Finset (Fin 2 × Fin 16)).biUnion (fun p => (outRect (coordsP p)).set) = Finset.univ := by
  refine Finset.eq_univ_iff_forall.mpr fun x => Finset.mem_biUnion.mpr ?_
  have hx : (x 0).val < 512 := (x 0).isLt
  have hx1 : (x 1).val < 513 := (x 1).isLt
  refine ⟨(⟨(x 0).val / 256, by omega⟩, ⟨(x 0).val % 256 / 16, by omega⟩), Finset.mem_univ _, Rect.mem_set_unit.mpr fun a => ?_⟩
  match a with
  | 0 => rw [off17_val]; show _ ≤ _ ∧ _ < _ + 16; constructor <;> simp only <;> omega
  | 1 => rw [off17_val1]; show 0 ≤ _ ∧ _ < 0 + 513; omega

/-- The subcore's part of the gates is its nodes. -/
theorem gSet (L : grid1.Coords) : (gSl L).view.set = (rowRect L).set := View.set_slice_whole _ _
/-- The subcore's part of the values is its nodes. -/
theorem ySet (L : grid1.Coords) : (ySl L).view.set = (rowRect L).set := View.set_slice_whole _ _
/-- The subcore's part of the ids is its nodes. -/
theorem iSet (L : grid1.Coords) : (iSl L).view.set = (rowRect L).set := View.set_slice_whole _ _
/-- The subcore's part of the denominators is its rows. -/
theorem dSet (L : grid1.Coords) : (dSl L).view.set = (outRect L).set := View.set_slice_whole _ _
/-- The subcore's part of the numerators is its rows. -/
theorem nSet (L : grid1.Coords) : (nSl L).view.set = (outRect L).set := View.set_slice_whole _ _

variable (d : Dev nD)

/-- The gates, cut into the subcores' parts. -/
theorem gPts_split (f : Buf (Elt F) (gLoc d)) : (gLoc d ↦{fullShare} f : sProp 𝕄) = bigSep Finset.univ fun p : Fin 2 × Fin 16 => gPts d (coordsP p) f := by
  rw [show (fun p : Fin 2 × Fin 16 => (gPts d (coordsP p) f : sProp 𝕄)) = fun p => (gLoc d ↦[(rowRect (coordsP p)).set]{fullShare} f : sProp 𝕄) from
    funext fun p => congrArg (fun I => (gLoc d ↦[I]{fullShare} f : sProp 𝕄)) (gSet (coordsP p))]
  rw [← pointsTo_biUnion Finset.univ (ℓ := gLoc d) (fun p => (rowRect (coordsP p)).set) fun p _ p' _ => row_disjoint p p', row_cover]
/-- The values, cut into the subcores' parts. -/
theorem yPts_split (f : Buf (Elt F) (yLoc d)) : (yLoc d ↦{fullShare} f : sProp 𝕄) = bigSep Finset.univ fun p : Fin 2 × Fin 16 => yPts d (coordsP p) f := by
  rw [show (fun p : Fin 2 × Fin 16 => (yPts d (coordsP p) f : sProp 𝕄)) = fun p => (yLoc d ↦[(rowRect (coordsP p)).set]{fullShare} f : sProp 𝕄) from
    funext fun p => congrArg (fun I => (yLoc d ↦[I]{fullShare} f : sProp 𝕄)) (ySet (coordsP p))]
  rw [← pointsTo_biUnion Finset.univ (ℓ := yLoc d) (fun p => (rowRect (coordsP p)).set) fun p _ p' _ => row_disjoint p p', row_cover]
/-- The ids, cut into the subcores' parts. -/
theorem iPts_split (f : Buf (Elt F) (iLoc d)) : (iLoc d ↦{fullShare} f : sProp 𝕄) = bigSep Finset.univ fun p : Fin 2 × Fin 16 => iPts d (coordsP p) f := by
  rw [show (fun p : Fin 2 × Fin 16 => (iPts d (coordsP p) f : sProp 𝕄)) = fun p => (iLoc d ↦[(rowRect (coordsP p)).set]{fullShare} f : sProp 𝕄) from
    funext fun p => congrArg (fun I => (iLoc d ↦[I]{fullShare} f : sProp 𝕄)) (iSet (coordsP p))]
  rw [← pointsTo_biUnion Finset.univ (ℓ := iLoc d) (fun p => (rowRect (coordsP p)).set) fun p _ p' _ => row_disjoint p p', row_cover]
/-- The denominators, cut into the subcores' parts. -/
theorem dPts_split (f : Buf (Elt F) (dLoc d)) : (dLoc d ↦{fullShare} f : sProp 𝕄) = bigSep Finset.univ fun p : Fin 2 × Fin 16 => dPts d (coordsP p) f := by
  rw [show (fun p : Fin 2 × Fin 16 => (dPts d (coordsP p) f : sProp 𝕄)) = fun p => (dLoc d ↦[(outRect (coordsP p)).set]{fullShare} f : sProp 𝕄) from
    funext fun p => congrArg (fun I => (dLoc d ↦[I]{fullShare} f : sProp 𝕄)) (dSet (coordsP p))]
  rw [← pointsTo_biUnion Finset.univ (ℓ := dLoc d) (fun p => (outRect (coordsP p)).set) fun p _ p' _ => out_disjoint p p', out_cover]
/-- The numerators, cut into the subcores' parts. -/
theorem nPts_split (f : Buf (Elt F) (nLoc d)) : (nLoc d ↦{fullShare} f : sProp 𝕄) = bigSep Finset.univ fun p : Fin 2 × Fin 16 => nPts d (coordsP p) f := by
  rw [show (fun p : Fin 2 × Fin 16 => (nPts d (coordsP p) f : sProp 𝕄)) = fun p => (nLoc d ↦[(outRect (coordsP p)).set]{fullShare} f : sProp 𝕄) from
    funext fun p => congrArg (fun I => (nLoc d ↦[I]{fullShare} f : sProp 𝕄)) (nSet (coordsP p))]
  rw [← pointsTo_biUnion Finset.univ (ℓ := nLoc d) (fun p => (outRect (coordsP p)).set) fun p _ p' _ => out_disjoint p p', out_cover]

/-- A table's rows at a subcore depend on the subcore's part alone. -/
theorem outOf_congr {α : Type} (L : grid1.Coords) {f f' : S512x513.Idx → α} (h : ∀ i ∈ (outRect L).set, f i = f' i) : outOf L f = outOf L f' :=
  funext fun x => h _ ((outRect L).toLoadRect.idx_mem x)

/-! ## What the call hands over and brings back -/

variable (GY : Dev nD → Vec F S100352 .f32 → Vec F S100352 .f32 → Prop) (ids : Dev nD → Vec F S100352 .i32)

/-- A task's operands: its nodes of the gate, of `y` and of the ids, its rows of the two tables. -/
def goP (L : grid1.Coords) : sProp 𝕄 :=
  iprop(∃ g y, ⌜GY d g y⌝ ∗ gPts d L g ∗ yPts d L y ∗ iPts d L (ids d) ∗ (∃ f, dPts d L f) ∗ (∃ f, nPts d L f))

/-- What a task brings back: its rows at the sums of its groups. -/
def tdP (L : grid1.Coords) : sProp 𝕄 :=
  iprop(∃ g y, ⌜GY d g y⌝ ∗ gPts d L g ∗ yPts d L y ∗ iPts d L (ids d) ∗ ∃ den num, ⌜TileOut L g y (ids d) den num⌝ ∗ dPts d L den ∗ nPts d L num)

/-- A task's grid coordinates, from the call's. -/
abbrev coordsK (c : Fin ((K (F := F)).nCore 0)) (i : Fin ((K (F := F)).nSub 0)) : grid1.Coords := coordsV (Fin.cast nCore_zero c) (Fin.cast nSub_zero i)

/-- The call's hand-overs: each SparseCore gets its sixteen tasks' operands, and brings back their results. -/
def P : (K (F := F)).Pay (nD := nD) (Val := Elt F) (Name := ℕ) (U := UU) where
  st := fun q d c => match q with | 0 => bigSep Finset.univ fun i => goP d GY ids (coordsK (F := F) c i)
  dn := fun q d c => match q with | 0 => bigSep Finset.univ fun i => tdP d GY ids (coordsK (F := F) c i)
  go := fun q d c i => match q with | 0 => goP d GY ids (coordsK (F := F) c i)
  td := fun q d c i => match q with | 0 => tdP d GY ids (coordsK (F := F) c i)
  x := fun _ _ => iprop(emp)

set_option synthInstance.maxHeartbeats 400000 in
/-- What a task starts from may be kept in a handshake. -/
instance goP_storable (L : grid1.Coords) : BI.Storable (upEmb : UEmb _ 𝕄) (goP d GY ids L) := by unfold goP; infer_instance
set_option synthInstance.maxHeartbeats 400000 in
/-- What a task brings back may be kept in a handshake. -/
instance tdP_storable (L : grid1.Coords) : BI.Storable (upEmb : UEmb _ 𝕄) (tdP d GY ids L) := by unfold tdP; infer_instance

/-- All that the call hands over may be kept in a handshake. -/
instance P_storable : (P (F := F) GY ids).IsStorable where
  st q d c := match q with
    | 0 => (inferInstance : BI.Storable (upEmb : UEmb _ 𝕄) (bigSep Finset.univ fun i => goP d GY ids (coordsK (F := F) c i)))
  dn q d c := match q with
    | 0 => (inferInstance : BI.Storable (upEmb : UEmb _ 𝕄) (bigSep Finset.univ fun i => tdP d GY ids (coordsK (F := F) c i)))
  go q d c i := match q with | 0 => goP_storable d GY ids _
  td q d c i := match q with | 0 => tdP_storable d GY ids _

/-- A subcore's task is the kernel's body at its coordinates. -/
theorem defs₀_vector (c : Fin τ.nSC) (s : Fin τ.nSub) :
    defs₀ (F := F) (.scVector c s) 1 ()
      = SparseCore.onTile hcore1 hsub1 (fun c s => cc1__seg_sc_body (coordsV c s)
          gV (Memref.isWhole_whole _) yV (Memref.isWhole_whole _) iV (Memref.isWhole_whole _) dV (Memref.isWhole_whole _) nV (Memref.isWhole_whole _)
          gS (Memref.isWhole_whole _) yS (Memref.isWhole_whole _) iS (Memref.isWhole_whole _) dS (Memref.isWhole_whole _) nS (Memref.isWhole_whole _)
          cc1_scratch5 cc1_scratch6 cc1_scratch7 cc1_scoped0 cc1_scoped1) ⟨⟩ c s := rfl

omit [FloatOps F] [Named F] in
/-- A wait recorded at no call, or before, is among those allowed in this call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's results put together. -/
theorem td_post (L : grid1.Coords) (g y : Vec F S100352 .f32) (h : GY d g y) {B C : sProp 𝕄} :
    iprop((gPts d L g ∗ yPts d L y ∗ iPts d L (ids d) ∗ ∃ den num, ⌜TileOut L g y (ids d) den num⌝ ∗ dPts d L den ∗ nPts d L num) ∗ B ∗ C)
      ⊢ iprop(tdP d GY ids L ∗ B ∗ C) := by
  unfold tdP
  iintro ⟨Hin, Hrest⟩
  isplitl [Hin]
  · iexists g; iexists y; isplitr; · ipureintro; exact h
    iexact Hin
  iexact Hrest

/-- A task from its operands to its results. -/
theorem tile_task (L : grid1.Coords) (hids : ∀ d j, (ids d j : BitVec 32).toNat < 512)
    (O : CellTallies nD τ sig (HIx 1)) (W : Waits sig (HIx 1)) (hO : ∀ g, O g none = 0) :
    iprop(levAts (K (F := F)).L (K (F := F)).lev ∗ emp ∗ goP d GY ids L ∗ scopedBufs (thr d L) ∗ scopedSems0 (thr d L) ∗ owes (thr d L) O W)
      ⊢ wp frame (wpE (defs₀ (F := F)) 𝒱₀ (thr d L) none) Set.univ
          (cc1__seg_sc_body L gV (Memref.isWhole_whole _) yV (Memref.isWhole_whole _) iV (Memref.isWhole_whole _) dV (Memref.isWhole_whole _) nV (Memref.isWhole_whole _)
            gS (Memref.isWhole_whole _) yS (Memref.isWhole_whole _) iS (Memref.isWhole_whole _) dS (Memref.isWhole_whole _) nS (Memref.isWhole_whole _)
            cc1_scratch5 cc1_scratch6 cc1_scratch7 cc1_scoped0 cc1_scoped1)
          fun _ => iprop(tdP d GY ids L ∗ scopedBufs (thr d L) ∗ scopedSems0 (thr d L)
            ∗ ∃ W', ⌜∀ p ∈ W', p ∈ W ∨ p.2 = none ∨ p.2 = some 0⌝ ∗ owes (thr d L) O W') := by
  iintro ⟨Hlv, He, Hgo, Hb, Hs, HO⟩
  unfold goP
  icases Hgo with ⟨%g, %y, %hgy, Hin⟩
  iapply ((tile_body d L facts g y (ids d) (hids d) O W hO).trans (wp_mono frame _ _ fun _ => (td_post d GY ids L g y hgy).trans obl_post))
  isplitl [Hlv]; · iexact Hlv
  isplitl [He]; · iexact He
  isplitl [Hin]; · iexact Hin
  isplitl [Hb]; · iexact Hb
  isplitl [Hs]; · iexact Hs
  iexact HO

set_option maxRecDepth 16384 in
/-- The call's obligation on every task. -/
theorem tileObl (hids : ∀ d j, (ids d j : BitVec 32).toNat < 512) : (K (F := F)).TileObl (D (F := F)) 𝒱 (P GY ids) v₀ 0 := by
  intro d c i O W hO _ _
  simp only [show (P (F := F) GY ids).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task d GY ids (coordsV ⟨_, hci.1⟩ ⟨_, hci.2⟩) hids O W hO

/-- A SparseCore's operands are its tasks', and so its results. -/
theorem vecSplit : (K (F := F)).VecSplit' (P GY ids) 0 := by
  intro d c
  show (bigSep Finset.univ fun i => goP d GY ids (coordsK (F := F) c i)) ⊢ |={Set.univ}=> iprop((bigSep Finset.univ fun i => goP d GY ids (coordsK (F := F) c i))
    ∗ ((bigSep Finset.univ fun i => tdP d GY ids (coordsK (F := F) c i)) -∗ bigSep Finset.univ fun i => tdP d GY ids (coordsK (F := F) c i)))
  iintro H; imodintro
  isplitl [H]; · iexact H
  iintro H; iexact H

/-- A product over the cores and their subcores is one over all the pairs. -/
theorem bigSep_tasks (Φ : grid1.Coords → sProp 𝕄) :
    (bigSep Finset.univ fun c : Fin ((K (F := F)).nCore 0) => bigSep Finset.univ fun i : Fin ((K (F := F)).nSub 0) => Φ (coordsK (F := F) c i))
      = bigSep Finset.univ fun p : Fin 2 × Fin 16 => Φ (coordsP p) := by
  rw [bigSep_univ_prod]; rfl

/-- One subcore's part of the arrays is what its task starts from. -/
theorem start_part (g y : Vec F S100352 .f32) (h : GY d g y) (f f' : Vec F S512x513 .f32) (L : grid1.Coords) :
    iprop(gPts d L g ∗ yPts d L y ∗ iPts d L (ids d) ∗ dPts d L f ∗ nPts d L f') ⊢ goP d GY ids L := by
  unfold goP
  iintro ⟨Hg, Hy, Hi, Hd, Hn⟩
  iexists g; iexists y; isplitr; · ipureintro; exact h
  isplitl [Hg]; · iexact Hg
  isplitl [Hy]; · iexact Hy
  isplitl [Hi]; · iexact Hi
  isplitl [Hd]; · iexists f; iexact Hd
  iexists f'; iexact Hn

/-- The whole arrays, cut into the tasks' operands. -/
theorem start_of_arrays (g : Vec F S100352 .f32) (y : Vec F S100352 .f32) (h : GY d g y) (f f' : Vec F S512x513 .f32) :
    iprop((gLoc d ↦{fullShare} g) ∗ (yLoc d ↦{fullShare} y) ∗ (iLoc d ↦{fullShare} ids d) ∗ (dLoc d ↦{fullShare} f) ∗ (nLoc d ↦{fullShare} f'))
      ⊢ (bigSep Finset.univ fun c : Fin ((K (F := F)).nCore 0) => (P GY ids).st 0 d c : sProp 𝕄) := by
  refine BI.Entails.trans ?_ (Entails.of_eq (bigSep_tasks (fun L => goP d GY ids L)).symm)
  rw [gPts_split, yPts_split, iPts_split, dPts_split, nPts_split, ← bigSep_sep', ← bigSep_sep', ← bigSep_sep', ← bigSep_sep']
  exact BI.bigSep_mono fun p _ => start_part d GY ids g y h f f' (coordsP p)

/-- The two tables, every subcore's rows at the sums of its groups. -/
def TablesOK (d : Dev nD) (den num : Vec F S512x513 .f32) : Prop :=
  ∀ p : Fin 2 × Fin 16, ∃ g y, GY d g y ∧ TileOut (coordsP p) g y (ids d) den num

/-- What a task brings back: its rows of the tables, at the sums of its groups. -/
theorem done_part (p : Fin 2 × Fin 16) :
    tdP d GY ids (coordsP p) ⊢ iprop(∃ z : Buf (Elt F) (dLoc d) × Buf (Elt F) (nLoc d),
      ⌜∃ g y, GY d g y ∧ TileOut (coordsP p) g y (ids d) z.1 z.2⌝ ∗ (dPts d (coordsP p) z.1 ∗ nPts d (coordsP p) z.2)) := by
  unfold tdP
  iintro ⟨%g, %y, %h, -, -, -, %den, %num, %ht, Hd, Hn⟩
  iexists (den, num); isplitr; · ipureintro; exact ⟨g, y, h, ht⟩
  isplitl [Hd]; · iexact Hd
  iexact Hn

set_option maxRecDepth 4096 in
/-- The tasks' results joined: the two tables whole. -/
theorem tables_of_done :
    (bigSep Finset.univ fun c : Fin ((K (F := F)).nCore 0) => (P GY ids).dn 0 d c : sProp 𝕄)
      ⊢ iprop(∃ den num, ⌜TablesOK GY ids d den num⌝ ∗ (dLoc d ↦{fullShare} den) ∗ (nLoc d ↦{fullShare} num)) := by
  refine (Entails.of_eq (bigSep_tasks (fun L => tdP d GY ids L))).trans ?_
  refine (BI.bigSep_mono fun p _ => done_part d GY ids p).trans ?_
  refine (bigSep_exists_pi Finset.univ (fun (p : Fin 2 × Fin 16) (z : Buf (Elt F) (dLoc d) × Buf (Elt F) (nLoc d)) =>
      iprop(⌜∃ g y, GY d g y ∧ TileOut (coordsP p) g y (ids d) z.1 z.2⌝ ∗ (dPts d (coordsP p) z.1 ∗ nPts d (coordsP p) z.2)))).trans ?_
  iintro ⟨%z, H⟩
  ihave H' := (bigSep_pure_out Finset.univ _ _) $$ H
  icases H' with ⟨%hz, H⟩
  ihave H' := (Entails.of_eq (bigSep_sep' (s := Finset.univ) (Φ := fun p : Fin 2 × Fin 16 => dPts d (coordsP p) (z p).1) (Ψ := fun p => nPts d (coordsP p) (z p).2))) $$ H
  icases H' with ⟨Hd, Hn⟩
  ihave Hd' := (pointsTo_biUnion_join (ℓ := dLoc d) (q := fullShare) (Val := Elt F) Finset.univ (fun p => (dSl (coordsP p)).view.set) (fun p => (z p).1) (z (0, 0)).1
    (fun p _ p' _ h => by rw [dSet, dSet]; exact out_disjoint p p' h)) $$ Hd
  ihave Hn' := (pointsTo_biUnion_join (ℓ := nLoc d) (q := fullShare) (Val := Elt F) Finset.univ (fun p => (nSl (coordsP p)).view.set) (fun p => (z p).2) (z (0, 0)).2
    (fun p _ p' _ h => by rw [nSet, nSet]; exact out_disjoint p p' h)) $$ Hn
  icases Hd' with ⟨%den, %hd, Hd⟩
  icases Hn' with ⟨%num, %hn, Hn⟩
  iexists den; iexists num
  isplitr
  · ipureintro
    intro p
    obtain ⟨g, y, h, hI, f₀, e₀, h0, h1, h2, h3⟩ := hz p (Finset.mem_univ _)
    exact ⟨g, y, h, hI, f₀, e₀, h0, h1, (outOf_congr _ fun i hi => hd p (Finset.mem_univ _) i ((Finset.ext_iff.mp (dSet (coordsP p)) i).mpr hi)).trans h2, (outOf_congr _ fun i hi => hn p (Finset.mem_univ _) i ((Finset.ext_iff.mp (nSet (coordsP p)) i).mpr hi)).trans h3⟩
  have e1 : (Finset.univ : Finset (Fin 2 × Fin 16)).biUnion (fun p => ((dSl (coordsP p)).view.set : Finset (Idx (dLoc d)))) = Finset.univ :=
    (Finset.biUnion_congr rfl fun p _ => dSet (coordsP p)).trans out_cover
  have e2 : (Finset.univ : Finset (Fin 2 × Fin 16)).biUnion (fun p => ((nSl (coordsP p)).view.set : Finset (Idx (nLoc d)))) = Finset.univ :=
    (Finset.biUnion_congr rfl fun p _ => nSet (coordsP p)).trans out_cover
  rw [e1, e2]
  isplitl [Hd]; · iexact Hd
  iexact Hn

end Cert.Proof.Seg

end
-- ==== Proof.Main.lean ====
/-
  The program's run: the host's lines, the gate kernel, the SparseCores' call and the closing kernel one after the other on
  the TensorCore; every argument as it was, the result the pooled row of two tables the tasks' sums filled.
-/
module

public import proofs.«01_k».proof.Proof.Host
public import proofs.«01_k».proof.Proof.Call
public import Idealize.ShloMosaic.Lib.SparseCore.Quiescent
public import Idealize.ShloMosaic.Lib.Pipeline.Regions

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig (HIx 1) (Elt F) ℕ UU ℕ

/-! ## The two regions, entered from the program -/

omit [FloatOps F] [Named F] in
/-- A continuation with no update is one with an update. -/
theorem wand_fupd (A B C : sProp 𝕄) : iprop((A -∗ B) ∗ C) ⊢ iprop((A -∗ |={Set.univ}=> B) ∗ C) := by
  iintro ⟨Hk, H⟩
  isplitl [Hk]
  · iintro H; imodintro; iapply Hk; iexact H
  iexact H

variable (V : (c : Dev nD) → (b : Ref sig .tc) → Buf (Elt F) ((c : Thread nD τ).loc b))

/-- The gate kernel's arrays as it finds them. -/
abbrev pre0 (c : Dev nD) : sProp 𝕄 :=
  iprop((at' c main_arg0 (V c main_arg0) ∗ at' c main_v5 (V c main_v5) ∗ at' c main_v10 (V c main_v10) ∗ at' c main_v16 (V c main_v16)
    ∗ at' c main_v17_0 (V c main_v17_0) ∗ at' c main_v17_1 (V c main_v17_1)) ∗ owesTc (F := F) c 0)
/-- The gate kernel's arrays as it leaves them. -/
abbrev post0 (c : Dev nD) : sProp 𝕄 :=
  iprop((at' c main_arg0 (V c main_arg0) ∗ at' c main_v5 (V c main_v5) ∗ at' c main_v10 (V c main_v10) ∗ at' c main_v16 (V c main_v16)
    ∗ (∃ g, ⌜GateOK (V c main_arg0) (V c main_v5) (V c main_v10) (V c main_v16) g⌝ ∗ at' c main_v17_0 g)
    ∗ (∃ y, ⌜ValueOK (V c main_arg0) (V c main_v5) y⌝ ∗ at' c main_v17_1 y)) ∗ owesTc (F := F) c 0)
/-- The closing kernel's arrays as it finds them. -/
abbrev pre2 (c : Dev nD) : sProp 𝕄 :=
  iprop((at' c main_v19_0 (V c main_v19_0) ∗ at' c main_v19_1 (V c main_v19_1) ∗ at' c main_v20 (V c main_v20)
    ∗ at' c main_v21 (V c main_v21)) ∗ owesTc (F := F) c 1)
/-- The closing kernel's arrays as it leaves them. -/
abbrev post2 (c : Dev nD) : sProp 𝕄 :=
  iprop((at' c main_v19_0 (V c main_v19_0) ∗ at' c main_v19_1 (V c main_v19_1) ∗ at' c main_v20 (V c main_v20)
    ∗ at' c main_v21 (k2_pay1 (V c main_v19_0) (V c main_v19_1) (V c main_v20))) ∗ owesTc (F := F) c 1)

set_option backward.isDefEq.respectTransparency.types false in
/-- The gate kernel's call, from its arrays. -/
theorem wp_gate [∀ e, Nonempty (Elt F e)] (d : Dev nD) (Q : PUnit → sProp 𝕄) :
    iprop((iprop(boundary (T d) ∗ post0 V d) -∗ Q ⟨⟩) ∗ boundary (T d) ∗ pre0 V d ∗ levAts (K (F := F)).L (K (F := F)).lev
        ∗ Pipeline.cellsGhost cfgs ER 0 d ∗ Pipeline.toksInit cfgs ER 0 d)
      ⊢ wp frame (wpE ((K (F := F)).defs (D (F := F))) 𝒱 (T d) none) Set.univ (Prog.lift (.customCall (SparseCore.inner (Pipeline.entry 0)) ())) Q := by
  have h := RDat.RegionSeg.wp (pcfgs (F := F)) adm (rds0 V) none cellOf_inj ER defs₀ 𝒱₀ (K (F := F)).L (K (F := F)).lev (reg0 V) d none (fun u hu => nomatch hu)
    (fun _ => .ret ⟨⟩) Q
  rw [wp_ret] at h
  exact (wand_fupd _ _ _).trans (h.trans ((K (F := F)).wp_liftProg (D (F := F)) 𝒱 (T d) Set.univ none _ Q))

set_option backward.isDefEq.respectTransparency.types false in
/-- The closing kernel's call, from its arrays. -/
theorem wp_fin [∀ e, Nonempty (Elt F e)] (d : Dev nD) (Q : PUnit → sProp 𝕄) :
    iprop((iprop(boundary (T d) ∗ post2 V d) -∗ Q ⟨⟩) ∗ boundary (T d) ∗ pre2 V d ∗ levAts (K (F := F)).L (K (F := F)).lev
        ∗ Pipeline.cellsGhost cfgs ER 1 d ∗ Pipeline.toksInit cfgs ER 1 d)
      ⊢ wp frame (wpE ((K (F := F)).defs (D (F := F))) 𝒱 (T d) none) Set.univ (Prog.lift (.customCall (SparseCore.inner (Pipeline.entry 1)) ())) Q := by
  have h := RDat.RegionSeg.wp (pcfgs (F := F)) adm (rds2 V) none cellOf_inj ER defs₀ 𝒱₀ (K (F := F)).L (K (F := F)).lev (reg2 V) d none (fun u hu => nomatch hu)
    (fun _ => .ret ⟨⟩) Q
  rw [wp_ret] at h
  exact (wand_fupd _ _ _).trans (h.trans ((K (F := F)).wp_liftProg (D (F := F)) 𝒱 (T d) Set.univ none _ Q))

/-! ## The core's state at a call, what it owes apart -/

/-- The rest of the TensorCore's state before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

/-- What the core holds before the call. -/
theorem tcSt_zero (d : Dev nD) : ((K (F := F)).tcSt EH d 0 : sProp 𝕄) = iprop(owesTc (F := F) d 0 ∗ tcRest d 0) := rfl
/-- What the core holds after the call. -/
theorem tcSt_one (d : Dev nD) : ((K (F := F)).tcSt EH d 1 : sProp 𝕄) = iprop(owesTc (F := F) d 1 ∗ tcRest d 1) := rfl

/-! ## What is computed -/

section Run
variable (m : (ℓ : Loc nD τ sig) → Buf (Elt F) ℓ) (ρ : Dev nD → PrngReg)

/-- The launch contents of a device's buffers. -/
abbrev W0 (d : Dev nD) : Valuation τ sig (Elt F) := fun b => m (d, b)

/-- What the gate and value arrays are known to hold. -/
def GYof (d : Dev nD) (g y : Vec F S100352 .f32) : Prop :=
  GateOK (W0 m d main_arg0) (wcatOf (W0 m d main_arg2) (W0 m d main_arg6)) (colOf (W0 m d main_arg3)) (colOf (shapeCast S16 (W0 m d main_arg4) shapeCasts_S16x1_S16)) g
    ∧ ValueOK (W0 m d main_arg0) (wcatOf (W0 m d main_arg2) (W0 m d main_arg6)) y

/-- The padded ids. -/
def idsM (d : Dev nD) : Vec F S100352 .i32 := idsOf (W0 m d main_arg1)

/-- What the result is known to be: the pooled row of two tables the tasks' sums filled. -/
def OutOK (d : Dev nD) (r : Vec F S512x1 .f32) : Prop :=
  ∃ den num, TablesOK (GYof m) (idsM m) d den num
    ∧ r = shapeCast S512x1 (k2_pay1 den num (shapeCast S1x1 (W0 m d main_arg7) shapeCasts_S1_S1x1)) shapeCasts_S1x512_S512x1

/-- The program's arguments. -/
abbrev args : List (Ref sig .tc) := [main_arg0, main_arg1, main_arg2, main_arg3, main_arg4, main_arg5, main_arg6, main_arg7]

/-- The two regions' cells and tokens. -/
def G (d : Dev nD) : sProp 𝕄 :=
  iprop((Pipeline.cellsGhost cfgs ER 0 d ∗ Pipeline.toksInit cfgs ER 0 d) ∗ (Pipeline.cellsGhost cfgs ER 1 d ∗ Pipeline.toksInit cfgs ER 1 d))

/-- Buffers named one by one, as a set. -/
abbrev refs (l : List (Ref sig .tc)) : Finset (DevRef τ sig) := (l.map (Proc.devRef (τ := τ) .tc)).toFinset

/-- Buffers named one by one, held as a product. -/
theorem held_refs (c : Thread nD τ) (l : List (Ref sig .tc)) (hn : l.Nodup) (W : Valuation τ sig (Elt F)) :
    (StableHlo.held c (refs l) W : sProp 𝕄) = l.foldr (fun r H => iprop(((c.1, Proc.devRef (τ := τ) .tc r) ↦{fullShare} W r) ∗ H)) iprop(emp) := by
  induction l with
  | nil => exact bigSep_empty
  | cons r l ih =>
    have hr : Proc.devRef (τ := τ) .tc r ∉ refs l := fun h => by
      obtain ⟨y, hy, e⟩ := List.mem_map.mp (List.mem_toFinset.mp h)
      exact (List.nodup_cons.mp hn).1 (Proc.devRef_injective _ e ▸ hy)
    rw [List.foldr_cons, ← ih (List.nodup_cons.mp hn).2]
    unfold StableHlo.held refs
    rw [List.map_cons, List.toFinset_cons, SparseCore.bigSep_insert' hr]

/-- Buffers named one by one taken out of all, and put back at new contents. -/
theorem held_take (c : Thread nD τ) (l : List (Ref sig .tc)) (hn : l.Nodup) (hu : ∀ r ∈ l, r.isScoped = false) (W W' : Valuation τ sig (Elt F))
    (hW : ∀ b, b ∉ refs l → W b = W' b) :
    (StableHlo.held c uc W : sProp 𝕄) = iprop((l.foldr (fun r H => iprop(((c.1, Proc.devRef (τ := τ) .tc r) ↦{fullShare} W r) ∗ H)) iprop(emp))
      ∗ StableHlo.held c (uc \ refs l) W') := by
  rw [StableHlo.held_sub_split c (sub_uc l hu) W, held_refs c l hn W, StableHlo.held_congr c fun b hb => hW b (Finset.mem_sdiff.mp hb).2]

end Run

end Cert.Proof.Seg

end
-- ==== Proof.Launch.lean ====
/-
  The program's run on every device: `@main` from the launch's deal to what it leaves, and the launch.
-/
module

public import proofs.«01_k».proof.Proof.Main

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch's ghost state -/

/-- The handshakes' rounds and the two regions'. -/
def u₀ : UU := (initOf (K (F := F)).hsCells (K (F := F)).hsToks, (initOf (Pipeline.cells cfgs cellOf_inj) (Pipeline.launchToks cfgs cellOf_inj), 1))

omit [FloatOps F] [Named F] in
/-- The ghost state at the launch holds the handshakes' part and the regions' part. -/
theorem ownU_regions (a : UR) (b : Counters) (h : UH) : (ownU (h, (a, b)) : sProp 𝕄) ⊢ iprop(BI.own (EH h) ∗ BI.own (ER a)) := by
  iintro Hu
  ihave H := (ownU_pair h (a, b)) $$ Hu
  icases H with ⟨HH, HR⟩
  ihave H' := (own_pair_emb embR a b) $$ HR
  icases H' with ⟨HR, -⟩
  isplitl [HH]; · iexact HH
  iexact HR

omit [FloatOps F] [Named F] in
/-- A product of nothing is nothing. -/
theorem bigSep_emp' {I : Type} (s : Finset I) : (bigSep s fun _ => iprop(emp)) = (iprop(emp) : sProp 𝕄) := bigSep_emp_const s

omit [FloatOps F] [Named F] in
/-- The two middle parts of four change places. -/
theorem swap_mid (A B C E : sProp 𝕄) : iprop((A ∗ B) ∗ C ∗ E) ⊢ iprop((A ∗ C) ∗ B ∗ E) := by
  iintro ⟨⟨H0, H1⟩, T0, T1⟩
  isplitl [H0 T0]
  · isplitl [H0] <;> iassumption
  · isplitl [H1] <;> iassumption

/-- Each core's cells and tokens, gathered by core. -/
theorem ghosts : iprop((bigSep Finset.univ fun c : Dev nD => bigSep Finset.univ fun p => Pipeline.cellsGhost cfgs ER p c)
      ∗ (bigSep Finset.univ fun c : Dev nD => bigSep Finset.univ fun p => Pipeline.toksInit cfgs ER p c)) ⊢ (bigSep Finset.univ fun d : Dev nD => G d : sProp 𝕄) := by
  rw [← bigSep_sep']
  refine BI.bigSep_mono fun d _ => ?_
  unfold G
  rw [show (Finset.univ : Finset (Fin 2)) = {0, 1} from rfl, SparseCore.bigSep_insert' (by decide), SparseCore.bigSep_insert' (by decide), bigSep_singleton, bigSep_singleton]
  exact swap_mid _ _ _ _

/-- The ghost state at the launch gives the handshakes' cells, each device's part, and what the tasks are handed. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (GYof m) (idsM m)).x q thr) := by
  unfold u₀
  iintro Hu
  ihave H := (ownU_regions _ _ _) $$ Hu
  icases H with ⟨HH, HR⟩
  imod (Pipeline.fund_ghost cfgs ER cellOf_inj) $$ HR with ⟨Hg, Ht⟩
  imodintro
  isplitl [HH]; · iexact HH
  isplitl [Hg Ht]
  · ihave H := (ghosts) $$ [Hg Ht]
    · isplitl [Hg] <;> iassumption
    iexact H
  rw [show (bigSep Finset.univ fun thr : Thread nD τ => bigSep Finset.univ fun q : Fin 1 => (P (F := F) (GYof m) (idsM m)).x q thr) = bigSep Finset.univ fun _ => iprop(emp) from
    bigSep_congr fun _ _ => bigSep_univ_of_subsingleton (0 : Fin 1), bigSep_emp']
  iempintro

omit [FloatOps F] [Named F] in
/-- The launch's buffers, as the lines hold them. -/
theorem launch_held (d : Dev nD) : (unscopedBufs d (fun b => m ((SparseCore.T d).loc b)) : sProp 𝕄) = StableHlo.held (SparseCore.T d) uc (W0 m d) :=
  Pipeline.unscopedBufs_held (Ix := HIx 1) (Name := ℕ) (U := UU) (Lvl := ℕ) d (W0 m d)

/-- The gate kernel's arrays. -/
abbrev l0 : List (Ref sig .tc) := [main_arg0, main_v5, main_v10, main_v16, main_v17_0, main_v17_1]
/-- The call's arrays. -/
abbrev l1 : List (Ref sig .tc) := [main_v17_0, main_v17_1, main_v18, main_v19_0, main_v19_1]
/-- The closing kernel's arrays. -/
abbrev l2 : List (Ref sig .tc) := [main_v19_0, main_v19_1, main_v20, main_v21]

/-- The contents with the gate and value arrays at `g` and `y`. -/
abbrev upd0 (W : Valuation τ sig (Elt F)) (g y : Vec F S100352 .f32) : Valuation τ sig (Elt F) :=
  Function.update (Function.update W main_v17_0 g) main_v17_1 y
/-- The contents with the two tables at `den` and `num`. -/
abbrev upd1 (W : Valuation τ sig (Elt F)) (den num : Vec F S512x513 .f32) : Valuation τ sig (Elt F) :=
  Function.update (Function.update W main_v19_0 den) main_v19_1 num
/-- The contents with the pooled row at `r`. -/
abbrev upd2 (W : Valuation τ sig (Elt F)) (r : Vec F S1x512 .f32) : Valuation τ sig (Elt F) := Function.update W main_v21 r

/-- The gates after the first kernel. -/
theorem upd0_g (W : Valuation τ sig (Elt F)) (g y : Vec F S100352 .f32) : upd0 W g y main_v17_0 = g := by
  unfold upd0; rw [Function.update_of_ne (StableHlo.devRef_ne_of_ne (by decide)), Function.update_self]
/-- The values after the first kernel. -/
theorem upd0_y (W : Valuation τ sig (Elt F)) (g y : Vec F S100352 .f32) : upd0 W g y main_v17_1 = y := by
  unfold upd0; rw [Function.update_self]
/-- What the first kernel leaves as it was. -/
theorem upd0_other (W : Valuation τ sig (Elt F)) (g y : Vec F S100352 .f32) {b : DevRef τ sig} (h : b ∉ refs [main_v17_0, main_v17_1]) : upd0 W g y b = W b := by
  have h0 : b ≠ main_v17_0 := fun e => h (e ▸ by simp [refs])
  have h1 : b ≠ main_v17_1 := fun e => h (e ▸ by simp [refs])
  unfold upd0; rw [Function.update_of_ne h1, Function.update_of_ne h0]
/-- The denominators after the SparseCore call. -/
theorem upd1_den (W : Valuation τ sig (Elt F)) (den num : Vec F S512x513 .f32) : upd1 W den num main_v19_0 = den := by
  unfold upd1; rw [Function.update_of_ne (StableHlo.devRef_ne_of_ne (by decide)), Function.update_self]
/-- The numerators after the SparseCore call. -/
theorem upd1_num (W : Valuation τ sig (Elt F)) (den num : Vec F S512x513 .f32) : upd1 W den num main_v19_1 = num := by
  unfold upd1; rw [Function.update_self]
/-- What the SparseCore call leaves as it was. -/
theorem upd1_other (W : Valuation τ sig (Elt F)) (den num : Vec F S512x513 .f32) {b : DevRef τ sig} (h : b ∉ refs [main_v19_0, main_v19_1]) : upd1 W den num b = W b := by
  have h0 : b ≠ main_v19_0 := fun e => h (e ▸ by simp [refs])
  have h1 : b ≠ main_v19_1 := fun e => h (e ▸ by simp [refs])
  unfold upd1; rw [Function.update_of_ne h1, Function.update_of_ne h0]
/-- The pooled row after the last kernel. -/
theorem upd2_row (W : Valuation τ sig (Elt F)) (r : Vec F S1x512 .f32) : upd2 W r main_v21 = r := Function.update_self ..
/-- What the last kernel leaves as it was. -/
theorem upd2_other (W : Valuation τ sig (Elt F)) (r : Vec F S1x512 .f32) {b : DevRef τ sig} (h : b ≠ main_v21) : upd2 W r b = W b := Function.update_of_ne h ..

/-- A reference not among those listed is not in their set. -/
theorem not_refs {l : List (Ref sig .tc)} {r : Ref sig .tc} (h : r ∉ l) : Proc.devRef (τ := τ) .tc r ∉ refs l := fun hb => by
  obtain ⟨y, hy, e⟩ := List.mem_map.mp (List.mem_toFinset.mp hb)
  exact h (Proc.devRef_injective _ e ▸ hy)
/-- A buffer outside a list is outside each part of it. -/
theorem refs_mono {l l' : List (Ref sig .tc)} (h : l ⊆ l') {b : DevRef τ sig} (hb : b ∉ refs l') : b ∉ refs l := fun hc => hb (by
  obtain ⟨y, hy, e⟩ := List.mem_map.mp (List.mem_toFinset.mp hc)
  exact List.mem_toFinset.mpr (List.mem_map.mpr ⟨y, h hy, e⟩))

variable (d : Dev nD) (W : Valuation τ sig (Elt F))

/-- The first kernel's arrays, taken out of the buffers held. -/
theorem take0 : (StableHlo.held (SparseCore.T d) uc W : sProp 𝕄)
    ⊢ iprop((at' d main_arg0 (W main_arg0) ∗ at' d main_v5 (W main_v5) ∗ at' d main_v10 (W main_v10) ∗ at' d main_v16 (W main_v16)
      ∗ at' d main_v17_0 (W main_v17_0) ∗ at' d main_v17_1 (W main_v17_1) ∗ emp) ∗ StableHlo.held (SparseCore.T d) (uc \ refs l0) W) :=
  Entails.of_eq (held_take (SparseCore.T d) l0 (by decide) (by decide) W W fun _ _ => rfl)
/-- The first kernel's arrays, put back with its results. -/
theorem put0 (g y : Vec F S100352 .f32) :
    iprop((at' d main_arg0 (W main_arg0) ∗ at' d main_v5 (W main_v5) ∗ at' d main_v10 (W main_v10) ∗ at' d main_v16 (W main_v16)
      ∗ at' d main_v17_0 g ∗ at' d main_v17_1 y ∗ emp) ∗ StableHlo.held (SparseCore.T d) (uc \ refs l0) W)
      ⊢ (StableHlo.held (SparseCore.T d) uc (upd0 W g y) : sProp 𝕄) := by
  have h := held_take (F := F) (SparseCore.T d) l0 (by decide) (by decide) (upd0 W g y) W fun b hb => upd0_other W g y (refs_mono (by decide) hb)
  simp only [l0, List.foldr_cons, List.foldr_nil] at h
  rw [upd0_g, upd0_y, upd0_other W g y (not_refs (r := main_arg0) (by decide)), upd0_other W g y (not_refs (r := main_v5) (by decide)),
    upd0_other W g y (not_refs (r := main_v10) (by decide)), upd0_other W g y (not_refs (r := main_v16) (by decide))] at h
  exact Entails.of_eq h.symm
/-- The SparseCore call's arrays, taken out of the buffers held. -/
theorem take1 : (StableHlo.held (SparseCore.T d) uc W : sProp 𝕄)
    ⊢ iprop((at' d main_v17_0 (W main_v17_0) ∗ at' d main_v17_1 (W main_v17_1) ∗ at' d main_v18 (W main_v18) ∗ at' d main_v19_0 (W main_v19_0)
      ∗ at' d main_v19_1 (W main_v19_1) ∗ emp) ∗ StableHlo.held (SparseCore.T d) (uc \ refs l1) W) :=
  Entails.of_eq (held_take (SparseCore.T d) l1 (by decide) (by decide) W W fun _ _ => rfl)
/-- The buffers still held after the call. -/
abbrev ucE : Finset (DevRef τ sig) := uc \ refs [main_v17_0, main_v17_1, main_v18]

/-- Buffers named one by one, none of them given up to the call, are among those still held. -/
theorem sub_ucE (l : List (Ref sig .tc)) (h : ∀ r ∈ l, r.isScoped = false) (h' : ∀ r ∈ l, r ∉ [main_v17_0, main_v17_1, main_v18]) : refs l ⊆ ucE := fun b hb => by
  obtain ⟨y, hy, rfl⟩ := List.mem_map.mp (List.mem_toFinset.mp hb)
  exact Finset.mem_sdiff.mpr ⟨mem_uc y (h y hy), not_refs (h' y hy)⟩

/-- The third line runs over the buffers still held. -/
theorem ops3_subE : ∀ op ∈ ops3 (F := F), op.bufs ⊆ ucE := fun op h => by
  obtain rfl := List.mem_singleton.mp h
  refine Finset.Subset.trans ?_ (sub_ucE [main_arg7, main_v20] (by decide) (by decide))
  intro b hb
  simpa [refs, StableHlo.reshape] using hb
/-- The last line runs over the buffers still held. -/
theorem ops4_subE : ∀ op ∈ ops4 (F := F), op.bufs ⊆ ucE := fun op h => by
  obtain rfl := List.mem_singleton.mp h
  refine Finset.Subset.trans ?_ (sub_ucE [main_v21, main_v22] (by decide) (by decide))
  intro b hb
  simpa [refs, StableHlo.reshape] using hb

/-- Buffers named one by one taken out of those held after the call. -/
theorem heldE_take (c : Thread nD τ) (l : List (Ref sig .tc)) (hn : l.Nodup) (hu : refs l ⊆ ucE) (W W' : Valuation τ sig (Elt F))
    (hW : ∀ b, b ∉ refs l → W b = W' b) :
    (StableHlo.held c ucE W : sProp 𝕄) = iprop((l.foldr (fun r H => iprop(((c.1, Proc.devRef (τ := τ) .tc r) ↦{fullShare} W r) ∗ H)) iprop(emp))
      ∗ StableHlo.held c (ucE \ refs l) W') := by
  rw [StableHlo.held_sub_split c hu W, held_refs c l hn W, StableHlo.held_congr c fun b hb => hW b (Finset.mem_sdiff.mp hb).2]

/-- The two tables, put back with the call's results. -/
theorem put1 (den num : Vec F S512x513 .f32) :
    iprop((at' d main_v19_0 den ∗ at' d main_v19_1 num ∗ emp) ∗ StableHlo.held (SparseCore.T d) (uc \ refs l1) W)
      ⊢ (StableHlo.held (SparseCore.T d) ucE (upd1 W den num) : sProp 𝕄) := by
  have h := heldE_take (F := F) (SparseCore.T d) [main_v19_0, main_v19_1] (by decide) (sub_ucE _ (by decide) (by decide)) (upd1 W den num) W
    fun b hb => upd1_other W den num hb
  simp only [List.foldr_cons, List.foldr_nil] at h
  rw [upd1_den, upd1_num, show ucE \ refs [main_v19_0, main_v19_1] = uc \ refs l1 by
    unfold ucE; rw [sdiff_sdiff]; congr 1] at h
  exact Entails.of_eq h.symm

/-- The last kernel's arrays, taken out of the buffers held. -/
theorem take2 : (StableHlo.held (SparseCore.T d) ucE W : sProp 𝕄)
    ⊢ iprop((at' d main_v19_0 (W main_v19_0) ∗ at' d main_v19_1 (W main_v19_1) ∗ at' d main_v20 (W main_v20) ∗ at' d main_v21 (W main_v21) ∗ emp)
      ∗ StableHlo.held (SparseCore.T d) (ucE \ refs l2) W) :=
  Entails.of_eq (heldE_take (SparseCore.T d) l2 (by decide) (sub_ucE _ (by decide) (by decide)) W W fun _ _ => rfl)
/-- The last kernel's arrays, put back with its result. -/
theorem put2 (r : Vec F S1x512 .f32) :
    iprop((at' d main_v19_0 (W main_v19_0) ∗ at' d main_v19_1 (W main_v19_1) ∗ at' d main_v20 (W main_v20) ∗ at' d main_v21 r ∗ emp)
      ∗ StableHlo.held (SparseCore.T d) (ucE \ refs l2) W)
      ⊢ (StableHlo.held (SparseCore.T d) ucE (upd2 W r) : sProp 𝕄) := by
  have h := heldE_take (F := F) (SparseCore.T d) l2 (by decide) (sub_ucE _ (by decide) (by decide)) (upd2 W r) W fun b hb => upd2_other W r fun e => hb (e ▸ by simp [refs])
  simp only [l2, List.foldr_cons, List.foldr_nil] at h
  rw [upd2_row, upd2_other W r (StableHlo.devRef_ne_of_ne (x := main_v19_0) (by decide)), upd2_other W r (StableHlo.devRef_ne_of_ne (x := main_v19_1) (by decide)),
    upd2_other W r (StableHlo.devRef_ne_of_ne (x := main_v20) (by decide))] at h
  exact Entails.of_eq h.symm

/-! ## @main -/

/-- What a device is left with. -/
def FIN : sProp 𝕄 :=
  iprop(∃ W : Valuation τ sig (Elt F), ⌜(∀ r ∈ args, W r = W0 m d r) ∧ OutOK m d (W main_v22)⌝ ∗ StableHlo.held (SparseCore.T d) ucE W)

/-- Gates and values that the first kernel may leave are ones that the call may start from. -/
theorem GY_of (g y : Vec F S100352 .f32)
    (hg : GateOK (StableHlo.after ops1 (W0 m d) main_arg0) (StableHlo.after ops1 (W0 m d) main_v5) (StableHlo.after ops1 (W0 m d) main_v10) (StableHlo.after ops1 (W0 m d) main_v16) g)
    (hy : ValueOK (StableHlo.after ops1 (W0 m d) main_arg0) (StableHlo.after ops1 (W0 m d) main_v5) y) : GYof m d g y := by
  rw [ops1_v5, ops1_v10, ops1_v16, ops1_other _ (r := main_arg0) (by decide)] at hg
  rw [ops1_v5, ops1_other _ (r := main_arg0) (by decide)] at hy
  exact ⟨hg, hy⟩

/-- The contents at the end, from what the kernels left. -/
abbrev Wend (g y : Vec F S100352 .f32) (den num : Vec F S512x513 .f32) (r : Vec F S1x512 .f32) : Valuation τ sig (Elt F) :=
  StableHlo.after ops4 (upd2 (StableHlo.after ops3 (upd1 (StableHlo.after ops2 (upd0 (StableHlo.after ops1 (W0 m d)) g y)) den num)) r)

/-- The arguments are at the end what they were. -/
theorem args_kept (g y : Vec F S100352 .f32) (den num : Vec F S512x513 .f32) (r : Vec F S1x512 .f32) : ∀ b ∈ args, Wend m d g y den num r b = W0 m d b := by
  have key : ∀ b : Ref sig .tc, b ∉ [main_cst, main_v0, main_c, main_v1, main_v2, main_v3, main_c_0, main_v4, main_v5, main_cst_1, main_v6, main_c_2, main_v7,
      main_c_3, main_v8, main_v9, main_v10, main_cst_4, main_v11, main_v12, main_c_5, main_v13, main_c_6, main_v14, main_v15, main_v16] →
      b ∉ [main_v17_0, main_v17_1] → b ∉ [main_c_7, main_call0_v0, main_v18] → b ∉ [main_v19_0, main_v19_1] → b ∉ [main_v20] → b ≠ main_v21 → b ∉ [main_v22] →
      Wend m d g y den num r b = W0 m d b := fun b h1 h2 h3 h4 h5 h6 h7 => by
    unfold Wend
    rw [ops4_other _ h7, upd2_other _ _ (StableHlo.devRef_ne_of_ne h6), ops3_other _ h5, upd1_other _ _ _ (not_refs h4), ops2_other _ h3, upd0_other _ _ _ (not_refs h2),
      ops1_other _ h1]
  simp only [args, List.forall_mem_cons, List.not_mem_nil, false_imp_iff, implies_true, and_true]
  refine ⟨?_, ?_, ?_, ?_, ?_, ?_, ?_, ?_⟩ <;> exact key _ (by decide) (by decide) (by decide) (by decide) (by decide) (by decide) (by decide)

/-- The result at the end is the last kernel's, from tables that the call may leave. -/
theorem out_of (g y : Vec F S100352 .f32) (den num : Vec F S512x513 .f32) (hT : TablesOK (GYof m) (idsM m) d den num) :
    OutOK m d (Wend m d g y den num (k2_pay1 (StableHlo.after ops3 (upd1 (StableHlo.after ops2 (upd0 (StableHlo.after ops1 (W0 m d)) g y)) den num) main_v19_0)
      (StableHlo.after ops3 (upd1 (StableHlo.after ops2 (upd0 (StableHlo.after ops1 (W0 m d)) g y)) den num) main_v19_1)
      (StableHlo.after ops3 (upd1 (StableHlo.after ops2 (upd0 (StableHlo.after ops1 (W0 m d)) g y)) den num) main_v20)) main_v22) := by
  refine ⟨den, num, hT, ?_⟩
  unfold Wend
  rw [ops4_v22, upd2_row, ops3_other _ (r := main_v19_0) (by decide), upd1_den, ops3_other _ (r := main_v19_1) (by decide), upd1_num, ops3_v20,
    upd1_other _ _ _ (not_refs (r := main_arg7) (by decide)), ops2_other _ (r := main_arg7) (by decide), upd0_other _ _ _ (not_refs (r := main_arg7) (by decide)),
    ops1_other _ (r := main_arg7) (by decide)]

set_option backward.isDefEq.respectTransparency.types false in
/-- `@main` on a device's TensorCore. -/
theorem hmain [∀ e, Nonempty (Elt F e)] (κ : GSem nD τ sig → ℕ) (d : Dev nD) :
    iprop((K (F := F)).ctx EH (P (GYof m) (idsM m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [launch_held, main_eq, tcSt_zero]
  rw [← StableHlo.seq_bind_seqK, ← StableHlo.seq_bind_seqK, ← StableHlo.seq_bind_seqK, ← StableHlo.seq_bind_seqK]
  iintro ⟨#Hctx, ⟨HO, Hst⟩, ⟨Hb, Hheld, Hts, -⟩, ⟨⟨Hg0, Ht0⟩, Hg1, Ht1⟩⟩
  ihave #Hlev := ((K (F := F)).ctx_levAts κ) $$ Hctx
  iapply (StableHlo.wp_seq 𝒱 none Set.univ d uc _ ops1 ops1_sub ops1_fresh (W0 m d)) $$ [Hb Hheld]
  · isplitl [Hb] <;> iassumption
  iintro ⟨Hb, Hheld⟩
  rw [wp_bind]
  ihave H := (take0 d (StableHlo.after ops1 (W0 m d))) $$ Hheld
  icases H with ⟨⟨Hx, H5, H10, H16, Hg, Hy, -⟩, Hheld⟩
  iapply (wp_gate (fun _ b => StableHlo.after ops1 (W0 m d) b) d _)
  isplitr [Hb Hx H5 H10 H16 Hg Hy HO Hg0 Ht0]
  swap
  · isplitl [Hb]; · iexact Hb
    isplitl [Hx H5 H10 H16 Hg Hy HO]
    · isplitr [HO]
      · isplitl [Hx]; · iexact Hx
        isplitl [H5]; · iexact H5
        isplitl [H10]; · iexact H10
        isplitl [H16]; · iexact H16
        isplitl [Hg]; · iexact Hg
        iexact Hy
      iexact HO
    isplitr; · iexact Hlev
    isplitl [Hg0] <;> iassumption
  iintro ⟨Hb, ⟨Hx, H5, H10, H16, ⟨%g, %hg, Hg⟩, %y, %hy, Hy⟩, HO⟩
  have hGY := GY_of m d g y hg hy
  ihave Hheld := (put0 d (StableHlo.after ops1 (W0 m d)) g y) $$ [Hx H5 H10 H16 Hg Hy Hheld]
  · isplitr [Hheld]
    · isplitl [Hx]; · iexact Hx
      isplitl [H5]; · iexact H5
      isplitl [H10]; · iexact H10
      isplitl [H16]; · iexact H16
      isplitl [Hg]; · iexact Hg
      isplitl [Hy]; · iexact Hy
      iempintro
    iexact Hheld
  iapply (StableHlo.wp_seq 𝒱 none Set.univ d uc _ ops2 ops2_sub ops2_fresh (upd0 (StableHlo.after ops1 (W0 m d)) g y)) $$ [Hb Hheld]
  · isplitl [Hb] <;> iassumption
  iintro ⟨Hb, Hheld⟩
  rw [wp_bind]
  ihave H := (take1 d (StableHlo.after ops2 (upd0 (StableHlo.after ops1 (W0 m d)) g y))) $$ Hheld
  icases H with ⟨⟨Hg, Hy, Hi, Hd, Hn, -⟩, Hheld⟩
  rw [ops2_other _ (r := main_v17_0) (by decide), upd0_g, ops2_other _ (r := main_v17_1) (by decide), upd0_y, ops2_v18,
    upd0_other _ _ _ (not_refs (r := main_arg1) (by decide)), ops1_other _ (r := main_arg1) (by decide)]
  iapply ((K (F := F)).wp_run (D (F := F)) 𝒱 (EH := EH) (P := P (GYof m) (idsM m)) κ d 0)
  isplitr; · iexact Hctx
  isplitl [HO Hst]
  · rw [show ((K (F := F)).tcSt EH d (0 : Fin 1).val : sProp 𝕄) = _ from tcSt_zero d]
    isplitl [HO] <;> iassumption
  isplitl [Hg Hy Hi Hd Hn]
  · iapply (start_of_arrays d (GYof m) (idsM m) g y hGY _ _)
    isplitl [Hg]; · iexact Hg
    isplitl [Hy]; · iexact Hy
    isplitl [Hi]; · iexact Hi
    isplitl [Hd]; · iexact Hd
    iexact Hn
  iintro ⟨Hst, Hdn⟩
  ihave Hst := (Entails.of_eq (show ((K (F := F)).tcSt EH d ((0 : Fin 1).val + 1) : sProp 𝕄) = iprop(owesTc (F := F) d 1 ∗ tcRest d 1) from tcSt_one d)) $$ Hst
  icases Hst with ⟨HO, Hst⟩
  ihave H := (tables_of_done d (GYof m) (idsM m)) $$ Hdn
  icases H with ⟨%den, %num, %hT, Hd, Hn⟩
  ihave Hheld := (put1 d (StableHlo.after ops2 (upd0 (StableHlo.after ops1 (W0 m d)) g y)) den num) $$ [Hd Hn Hheld]
  · isplitr [Hheld]
    · isplitl [Hd]; · iexact Hd
      isplitl [Hn]; · iexact Hn
      iempintro
    iexact Hheld
  iapply (StableHlo.wp_seq 𝒱 none Set.univ d ucE _ ops3 ops3_subE ops3_fresh (upd1 (StableHlo.after ops2 (upd0 (StableHlo.after ops1 (W0 m d)) g y)) den num)) $$ [Hb Hheld]
  · isplitl [Hb] <;> iassumption
  iintro ⟨Hb, Hheld⟩
  rw [wp_bind]
  ihave H := (take2 d (StableHlo.after ops3 (upd1 (StableHlo.after ops2 (upd0 (StableHlo.after ops1 (W0 m d)) g y)) den num))) $$ Hheld
  icases H with ⟨⟨Hd, Hn, Hb2, Hr, -⟩, Hheld⟩
  iapply (wp_fin (fun _ b => StableHlo.after ops3 (upd1 (StableHlo.after ops2 (upd0 (StableHlo.after ops1 (W0 m d)) g y)) den num) b) d _)
  isplitr [Hb Hd Hn Hb2 Hr HO Hg1 Ht1]
  swap
  · isplitl [Hb]; · iexact Hb
    isplitl [Hd Hn Hb2 Hr HO]
    · isplitr [HO]
      · isplitl [Hd]; · iexact Hd
        isplitl [Hn]; · iexact Hn
        isplitl [Hb2]; · iexact Hb2
        iexact Hr
      iexact HO
    isplitr; · iexact Hlev
    isplitl [Hg1] <;> iassumption
  iintro ⟨Hb, ⟨Hd, Hn, Hb2, Hr⟩, HO⟩
  ihave Hheld := (put2 d (StableHlo.after ops3 (upd1 (StableHlo.after ops2 (upd0 (StableHlo.after ops1 (W0 m d)) g y)) den num)) _) $$ [Hd Hn Hb2 Hr Hheld]
  · isplitr [Hheld]
    · isplitl [Hd]; · iexact Hd
      isplitl [Hn]; · iexact Hn
      isplitl [Hb2]; · iexact Hb2
      isplitl [Hr]; · iexact Hr
      iempintro
    iexact Hheld
  iapply (StableHlo.wp_seq 𝒱 none Set.univ d ucE _ ops4 ops4_subE ops4_fresh _) $$ [Hb Hheld]
  · isplitl [Hb] <;> iassumption
  iintro ⟨Hb, Hheld⟩
  rw [wp_pure]
  imodintro
  isplitl [HO Hst]
  · rw [tcSt_one]
    isplitl [HO] <;> iassumption
  isplitl [Hheld]
  · unfold FIN
    iexists _; isplitr; swap; · iexact Hheld
    ipureintro
    exact ⟨args_kept m d g y den num _, out_of m d g y den num hT⟩
  isplitl [Hb] <;> iassumption

/-! ## The launch -/

omit [FloatOps F] [Named F] in
/-- Buffers held agree with the memory. -/
theorem held_agree (s' : Phys nD τ sig (Elt F)) (S : Finset (DevRef τ sig)) {b : DevRef τ sig} (hb : b ∈ S) :
    iprop(StableHlo.held (SparseCore.T d) S W ∗ SI s') ⊢ (⌜s'.mem.mem (d, b) = W b⌝ : sProp 𝕄) := by
  unfold StableHlo.held
  rw [← Finset.insert_erase hb, SparseCore.bigSep_insert' (Finset.notMem_erase b S)]
  iintro ⟨⟨Hb, -⟩, HSI⟩
  ihave H := (SI_pointsTo_agree (st := s') (ℓ := (d, b)) (I := Finset.univ) (q := fullShare) (f := W b)) $$ [HSI Hb]
  · isplitl [HSI] <;> iassumption
  icases H with %h
  ipureintro; exact funext fun i => h i (Finset.mem_univ i)

omit [FloatOps F] [Named F] in
/-- Memory holds in each buffer listed what is held of it. -/
theorem held_agree_list (s' : Phys nD τ sig (Elt F)) (l : List (Ref sig .tc)) (hl : refs l ⊆ ucE) :
    iprop(StableHlo.held (SparseCore.T d) ucE W ∗ SI s') ⊢ (⌜∀ r ∈ l, s'.mem.mem (d, Proc.devRef .tc r) = W r⌝ : sProp 𝕄) := by
  induction l with
  | nil => iintro -; ipureintro; exact fun r h => absurd h List.not_mem_nil
  | cons r l ih =>
    have hr : Proc.devRef (τ := τ) .tc r ∈ ucE := hl (by simp [refs])
    have hl' : refs l ⊆ ucE := fun b hb => hl (by simp only [refs, List.map_cons, List.toFinset_cons]; exact Finset.mem_insert_of_mem hb)
    iintro H
    ihave H' := (persistent_entails_right (held_agree d W s' ucE hr)) $$ H
    icases H' with ⟨%h1, H⟩
    ihave H' := (ih hl') $$ H
    icases H' with %h2
    ipureintro
    exact fun q hq => (List.mem_cons.mp hq).elim (fun e => e ▸ h1) (h2 q)

/-- What is read at the end. -/
def fq (s' : Phys nD τ sig (Elt F)) : Prop := (∀ r ∈ args, s'.mem.mem (d, Proc.devRef .tc r) = W0 m d r) ∧ OutOK m d (s'.mem.mem (d, Proc.devRef .tc main_v22))

/-- What a device is left with, read off the memory at the end. -/
theorem hfin (s' : Phys nD τ sig (Elt F)) : iprop(FIN m d ∗ SI s') ⊢ (⌜fq m d s'⌝ : sProp 𝕄) := by
  unfold FIN
  iintro ⟨⟨%W, %hW, H⟩, HSI⟩
  ihave H := (held_agree_list d W s' (main_v22 :: args) (sub_ucE _ (by decide) (by decide))) $$ [H HSI]
  · isplitl [H] <;> iassumption
  icases H with %h
  ipureintro
  refine ⟨fun r hr => (h r (List.mem_cons_of_mem _ hr)).trans (hW.1 r hr), ?_⟩
  rw [h main_v22 List.mem_cons_self]
  exact hW.2

/-- What the program leaves: on every device the arguments as they were and the result, every semaphore at zero. -/
def QC : PUnit × MemSt nD τ sig (Elt F) → Prop := fun r =>
  (∀ d : Dev nD, (∀ b ∈ args, r.2.mem (d, Proc.devRef .tc b) = W0 m d b) ∧ OutOK m d (r.2.mem (d, Proc.devRef .tc main_v22))) ∧ r.2.sem = fun _ => 0

/-- The program runs from any memory with ids in range to arguments unchanged, the result described, and every semaphore at zero. -/
theorem run_main [∀ e, Nonempty (Elt F e)] (hids : ∀ d j, (idsM m d j : BitVec 32).toNat < 512) :
    θ_run (defs (F := F)) (threads (F := F)) ⟨m, fun _ => 0, ρ⟩ (QC m) :=
  SparseCore.Cfg.θ_run_sc_quiescent (K := K (F := F)) (D := D (F := F)) (𝒱 := 𝒱) (EH := EH) (P := P (GYof m) (idsM m)) (A := ∅) facts v₀
    (fun q hq => match q with | 0 => nomatch hq)
    (fun q _ => match q with | 0 => tileObl (GYof m) (idsM m) hids)
    (fun q _ => match q with | 0 => SparseCore.Cfg.VecSplit.of_plain (vecSplit (GYof m) (idsM m)))
    m ρ main G (FIN m) (u₀ (F := F)) (sep_elim_left.trans (hu₀ m)) (hmain m ρ) (fq m) (hfin m) (QC m) (fun _ h hz => ⟨h, hz⟩)

end Cert.Proof.Seg

end
-- ==== Proof.Frames.lean ====
/-
  The frames: under the range precondition the printed kernel and its ideal form run to the end and leave their
  arguments and every counter as they were; the reference does so from any memory.
-/
module

public import proofs.«01_k».proof.Proof.Pre
public import proofs.«01_k».proof.Proof.Launch
public import proofs.«01_k».proof.Proof.Gen.ReferenceIdeal.Run

@[expose] public section

noncomputable section

namespace Cert.Proof

open Idealize.ShloMosaic Idealize.ShloMosaic.TcCoe Idealize.SL.Sem

/-- The padded ids name segments: 511 in the padding, an argument's id elsewhere. -/
theorem padded_ids_lt {F : FTy → Type} [FloatOps F] (ids : Vec F Cert.KernelIdeal.S100000 .i32) (h : IdsIn ids) (j : Cert.KernelIdeal.S100352.Idx) :
    (Seg.idsOf (F := F) ids j : BitVec 32).toNat < 512 := by
  unfold Seg.idsOf
  unfold pad
  split
  · exact h _
  · decide

/-- The run's last memory keeps the arguments. -/
theorem args_kept {F : FTy → Type} [FloatOps F] [Named F] (m : (ℓ : Loc Cert.KernelIdeal.nD Cert.KernelIdeal.τ Cert.KernelIdeal.sig) → Buf (Elt F) ℓ)
    (r : (ℓ : Loc Cert.KernelIdeal.nD Cert.KernelIdeal.τ Cert.KernelIdeal.sig) → Buf (Elt F) ℓ) (c : Dev Cert.KernelIdeal.nD)
    (h : ∀ b ∈ Seg.args, r (c, Proc.devRef .tc b) = Seg.W0 m c b) :
    r ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ r ((c.tc : Thread Cert.KernelIdeal.nD Cert.KernelIdeal.τ).loc Cert.KernelIdeal.main_arg7) = m ((c.tc : Thread Cert.KernelIdeal.nD Cert.KernelIdeal.τ).loc Cert.KernelIdeal.main_arg7) :=
  ⟨h Cert.KernelIdeal.main_arg0 (by decide), h Cert.KernelIdeal.main_arg1 (by decide), h Cert.KernelIdeal.main_arg2 (by decide),
    h Cert.KernelIdeal.main_arg3 (by decide), h Cert.KernelIdeal.main_arg4 (by decide), h Cert.KernelIdeal.main_arg5 (by decide),
    h Cert.KernelIdeal.main_arg6 (by decide), h Cert.KernelIdeal.main_arg7 (by decide)⟩

section
variable [Cert.Pre_ids_in_range.Facts] [Cert.Pre_finite_and_in_range.Facts]

/-- The ideal form's frame from ids in range. -/
theorem frame_KernelIdeal : quiescent_KernelIdeal := fun m g hp =>
  (θ_run _ _ _).mono (fun _ h => ⟨fun c => args_kept m _ c (h.1 c).1, h.2⟩)
    (Seg.run_main m g fun d j => padded_ids_lt _ (ids_of_pre (hp d)) j)

/-- … and from finite arguments besides. -/
theorem frame_KernelIdeal' : quiescent_KernelIdeal_pre_finite_and_in_range := fun m g hp =>
  (θ_run _ _ _).mono (fun _ h => ⟨fun c => args_kept m _ c (h.1 c).1, h.2⟩)
    (Seg.run_main m g fun d j => padded_ids_lt _ (all_of_pre (hp d)).1 j)

attribute [local instance] namedBits

/-- The printed kernel's frame: the ideal form's at the hardware's floats. -/
theorem frame_Kernel : quiescent_Kernel := fun m g hp => by
  rw [same_defs, same_threads]
  exact (θ_run (Cert.KernelIdeal.defs (F := Bits)) (Cert.KernelIdeal.threads (F := Bits)) _).mono (fun _ h => ⟨fun c => args_kept m _ c (h.1 c).1, h.2⟩)
    (Seg.run_main m g fun d j => padded_ids_lt _ (ids_of_pre (hp d)) j)

/-- The reference's frame: a straight line of array operations, which names no semaphore. -/
theorem frame_ReferenceIdeal : quiescent_ReferenceIdeal := fun m g _ =>
  (θ_run Cert.ReferenceIdeal.defs _ _).mono (fun r h => ⟨fun c => (h c).2, sem_eq_zero_of_no_sems rfl r.2⟩) (Cert.ReferenceIdeal.Value.run m g)

/-- … read under the precondition of the value claim. -/
theorem frame_ReferenceIdeal' : quiescent_ReferenceIdeal_pre_finite_and_in_range := fun m g _ =>
  frame_ReferenceIdeal m g trivial

end

end Cert.Proof

end
-- ==== Proof.Payloads.lean ====
/-
  What the TensorCore calls compute, read at an index over the extended reals.
-/
module

public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.Proof.Seg

open Cert.KernelIdeal Cert.KernelIdeal.Gen
open Idealize.ShloMosaic

/-- Row `r` of block `i` is a node when its number is below 100000. -/
theorem pay2_apply (i : grid0.Coords) (r : Fin 7168) : k0_pay2 i (ix2 0 r) = BitVec.ofBool (decide (7168 * (i 0).val + r.val < 100000)) := by
  pointwise [k0_pay2]
  have hi : (i 0).val < 14 := (i 0).isLt
  have hr := r.isLt
  have e : IntOp.addi (Scalar.muli (BitVec.ofNat 32 (i 0).val) 7168#32) (BitVec.ofNat 32 r.val) = BitVec.ofNat 32 (7168 * (i 0).val + r.val) := by
    apply BitVec.eq_of_toNat_eq
    simp only [IntOp.addi, Scalar.muli, IntOp.muli, BitVec.toNat_add, BitVec.toNat_mul, BitVec.toNat_ofNat, Nat.reducePow, Nat.reduceMod]
    omega
  rw [e]
  have h : (BitVec.ofNat 32 (7168 * (i 0).val + r.val)).toInt = ((7168 * (i 0).val + r.val : ℕ) : ℤ) := by
    rw [BitVec.toInt_eq_toNat_of_lt] <;> rw [BitVec.toNat_ofNat, Nat.mod_eq_of_lt] <;> omega
  unfold IntOp.cmpi
  simp only [BitVec.slt_eq_decide, h, show (100000#32 : BitVec 32).toInt = 100000 from rfl]
  congr 2
  simp only [eq_iff_iff]
  omega

/-- The first product: block row `r`'s column `k`. -/
theorem pay1_apply (v0 : Vec Ideal S7168x256 .f32) (v1 : Vec Ideal S256x32 .f32) (k : Fin 32) (r : Fin 7168) :
    k0_pay1 v0 v1 (ix2 k r) = ∑ j : Fin 256, v0 (ix2 r j) * v1 (ix2 j k) := by
  pointwise [k0_pay1]

/-- The mask stands for minus infinity. -/
theorem mask_eq : (Named.named (F := Ideal) κ "mask" (φ := .f32) 0xF149F2CA#32 : EReal) = ⊥ := rfl

/-- The gate of a block's row: the two layers on a node, minus infinity beyond the nodes. -/
theorem pay3_apply (i : grid0.Coords) (v0 : Vec Ideal S7168x256 .f32) (v1 : Vec Ideal S256x32 .f32) (v5 v11 : Vec Ideal S32x1 .f32) (r : Fin 7168) :
    (k0_pay3 i v0 v1 v5 v11 (ix1 r) : EReal) = if 7168 * (i 0).val + r.val < 100000 then
      ∑ k : Fin 32, max ((∑ j : Fin 256, v0 (ix2 r j) * v1 (ix2 j k)) + v5 (ix2 k 0)) 0 * v11 (ix2 k 0) else ⊥ := by
  pointwise [k0_pay3]
  rw [pay2_apply, ← mask_eq]
  by_cases h : 7168 * (i 0).val + r.val < 100000
  · rw [if_pos h, decide_eq_true h]
    simp only [pay1_apply]
    rfl
  · rw [if_neg h, decide_eq_false h]
    rfl

/-- The value of a block's row: its product with the output column on a node, 0 beyond. -/
theorem pay4_apply (i : grid0.Coords) (v0 : Vec Ideal S7168x256 .f32) (v1 : Vec Ideal S256x32 .f32) (r : Fin 7168) :
    (k0_pay4 i v0 v1 (ix1 r) : EReal) = if 7168 * (i 0).val + r.val < 100000 then ∑ j : Fin 256, v0 (ix2 r j) * v1 (ix2 j 16) else 0 := by
  pointwise [k0_pay4]
  rw [pay2_apply]
  by_cases h : 7168 * (i 0).val + r.val < 100000
  · rw [if_pos h, decide_eq_true h, ← pay1_apply]
    rfl
  · rw [if_neg h, decide_eq_false h]
    rfl

/-- The last call: the tables' column sums, divided, and the output's offset. -/
theorem fin_apply (den num : Vec Ideal S512x513 .f32) (bb : Vec Ideal S1x1 .f32) (g : Fin 512) :
    (k2_pay1 den num bb (ix2 0 g) : EReal) = Ideal.div (∑ x : Fin 512, num (ix2 x ⟨g.val, by omega⟩))
      ((∑ x : Fin 512, den (ix2 x ⟨g.val, by omega⟩)) + Ideal.ofBits .f32 0x24E69595#32) + bb (ix2 0 0) := by
  pointwise [k2_pay1]

end Cert.Proof.Seg

end
-- ==== Proof.Weights.lean ====
/-
  The packed weights, entry by entry: the two layers' columns side by side, and the columns of sixteen padded with zeros.
-/
module

public import proofs.«01_k».proof.Proof.Host
public import Idealize.ShloMosaic.Lib.Pointwise
public import Idealize.ShloMosaic.Lib.Routing.OpsPair
public import Idealize.ShloMosaic.Lib.Routing.OpsSet

@[expose] public section

set_option maxRecDepth 16384

noncomputable section

namespace Cert.Proof.Seg

open Cert.KernelIdeal Cert.KernelIdeal.Gen
open Idealize.ShloMosaic

/-- Where the first layer's weights land: at their own place. -/
theorem lands_w1 {v : IVec S1 32} (hv : ∀ i, v i = 0#32) (k : S256x16.Idx) (ι : S256x32.Idx) :
    (scatter_S256x32_S1_S256x16_01_n_1_0.resultIdx? k v = some ι) ↔ (k 0).val = (ι 0).val ∧ (k 1).val = (ι 1).val := by
  rw [Routing.resultIdx?_eq_some, Fin.forall_fin_two]
  have e0 : scatter_S256x32_S1_S256x16_01_n_1_0.start k v 0 = 0 := rfl
  have e1 : scatter_S256x32_S1_S256x16_01_n_1_0.start k v 1 = 0 := by
    show (v _).toInt = 0
    rw [hv]; rfl
  have w0 : scatter_S256x32_S1_S256x16_01_n_1_0.window k 0 = (k 0).val := rfl
  have w1 : scatter_S256x32_S1_S256x16_01_n_1_0.window k 1 = (k 1).val := rfl
  rw [e0, e1, w0, w1]
  omega

/-- Where the output weights land: in column 16. -/
theorem lands_wo {v : IVec S1 32} (hv : ∀ i, v i = 16#32) (k : S256.Idx) (ι : S256x32.Idx) :
    (scatter_S256x32_S1_S256_0_1_1_0.resultIdx? k v = some ι) ↔ (k 0).val = (ι 0).val ∧ 16 = (ι 1).val := by
  rw [Routing.resultIdx?_eq_some, Fin.forall_fin_two]
  have e0 : scatter_S256x32_S1_S256_0_1_1_0.start k v 0 = 0 := rfl
  have e1 : scatter_S256x32_S1_S256_0_1_1_0.start k v 1 = 16 := by
    show (v _).toInt = 16
    rw [hv]; rfl
  have w0 : scatter_S256x32_S1_S256_0_1_1_0.window k 0 = (k 0).val := rfl
  have w1 : scatter_S256x32_S1_S256_0_1_1_0.window k 1 = 0 := rfl
  rw [e0, e1, w0, w1]
  omega

/-- Where a column of sixteen lands: at the top of the column of thirty-two. -/
theorem lands_col {v : IVec S2 32} (hv : ∀ i, v i = 0#32) (k : S16.Idx) (ι : S32x1.Idx) :
    (scatter_S32x1_S2_S16_0_1_01_0.resultIdx? k v = some ι) ↔ (k 0).val = (ι 0).val := by
  rw [Routing.resultIdx?_eq_some, Fin.forall_fin_two]
  have e0 : scatter_S32x1_S2_S16_0_1_01_0.start k v 0 = 0 := by
    show (v _).toInt = 0
    rw [hv]; rfl
  have e1 : scatter_S32x1_S2_S16_0_1_01_0.start k v 1 = 0 := by
    show (v _).toInt = 0
    rw [hv]; rfl
  have w0 : scatter_S32x1_S2_S16_0_1_01_0.window k 0 = (k 0).val := rfl
  have w1 : scatter_S32x1_S2_S16_0_1_01_0.window k 1 = 0 := rfl
  have h : (ι 1).val < 1 := (ι 1).isLt
  rw [e0, e1, w0, w1]
  omega

/-- A word repeated is that word at every place. -/
theorem splat_apply (c : BitVec 32) (i : S1.Idx) : broadcastInDim S1 ![] bcast_S_S1 (constantI S_ 32 c) i = c := rfl

variable {F : FTy → Type} [FloatOps F]

/-- The first sixteen columns are the first layer's weights. -/
theorem wcat_left (w1 : Vec F S256x16 .f32) (wo : Vec F S256x1 .f32) (j : Fin 256) (k : Fin 16) :
    wcatOf w1 wo (ix2 j ⟨k.val, by omega⟩) = w1 (ix2 j k) := by
  unfold wcatOf
  rw [Routing.scatter_set_miss]
  · refine Routing.scatter_set_hit _ _ _ _ _ _ (fun q hq => ?_) (ix2 j k) ?_
    · rw [lands_w1 (splat_apply _)] at hq
      refine congrArg w1 ?_
      rw [eq_ix2 q]
      congr 1 <;> apply Fin.ext
      · exact hq.1
      · exact hq.2
    · rw [lands_w1 (splat_apply _)]; exact ⟨rfl, rfl⟩
  · intro q hq
    rw [lands_wo (splat_apply _)] at hq
    have h : 16 = k.val := hq.2
    omega

/-- Column 16 is the output weights. -/
theorem wcat_mid (w1 : Vec F S256x16 .f32) (wo : Vec F S256x1 .f32) (j : Fin 256) : wcatOf w1 wo (ix2 j 16) = wo (ix2 j 0) := by
  unfold wcatOf
  refine Routing.scatter_set_hit _ _ _ _ _ _ (fun q hq => ?_) (ix1 j) ?_
  · rw [lands_wo (splat_apply _)] at hq
    have e : q = ix1 j := by rw [eq_ix1 q]; congr 1; exact Fin.ext hq.1
    rw [e]
    pointwise
  · rw [lands_wo (splat_apply _)]; exact ⟨rfl, rfl⟩

/-- The column's first sixteen entries. -/
theorem col_top (b : Vec F S16 .f32) (k : Fin 16) : colOf b (ix2 ⟨k.val, by omega⟩ 0) = b (ix1 k) := by
  unfold colOf
  have hz : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
    intro i
    pointwise
    exact ite_self _
  refine Routing.scatter_set_hit _ _ _ _ _ _ (fun q hq => ?_) (ix1 k) ?_
  · rw [lands_col hz] at hq
    rw [eq_ix1 q]; congr 2; exact Fin.ext hq
  · rw [lands_col hz]; rfl

/-- … and zeros below. -/
theorem col_rest (b : Vec F S16 .f32) (k : Fin 32) (hk : 16 ≤ k.val) : colOf b (ix2 k 0) = Scalar.ofBits .f32 0x00000000#32 := by
  unfold colOf
  have hz : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
    intro i
    pointwise
    exact ite_self _
  rw [Routing.scatter_set_miss]
  · rfl
  · intro q hq
    rw [lands_col hz] at hq
    have h : (q 0).val < 16 := (q 0).isLt
    have h' : (q 0).val = k.val := hq
    omega

end Cert.Proof.Seg

end
-- ==== Proof.Spec.lean ====
/-
  The two functions of a node that both programs compute: its gate, and its row against the output weights.
-/
module

public import Idealize.ShloMosaic.Lib.Pointwise

@[expose] public section

noncomputable section

namespace Cert.Proof.Seg

open Idealize.ShloMosaic

/-- A node's gate without the second layer's offset. -/
def gateOf (x : Vec Ideal ⟨2, ![100000, 256]⟩ .f32) (w1 : Vec Ideal ⟨2, ![256, 16]⟩ .f32) (b1 : Vec Ideal ⟨1, ![16]⟩ .f32)
    (w2 : Vec Ideal ⟨2, ![16, 1]⟩ .f32) (n : Fin 100000) : EReal :=
  ∑ k : Fin 16, max ((∑ j : Fin 256, (x (ix2 n j) : EReal) * (w1 (ix2 j k) : EReal)) + (b1 (ix1 k) : EReal)) 0 * (w2 (ix2 k 0) : EReal)

/-- A node's row against the output weights. -/
def valueOf (x : Vec Ideal ⟨2, ![100000, 256]⟩ .f32) (wo : Vec Ideal ⟨2, ![256, 1]⟩ .f32) (n : Fin 100000) : EReal :=
  ∑ j : Fin 256, (x (ix2 n j) : EReal) * (wo (ix2 j 0) : EReal)

end Cert.Proof.Seg
-- ==== Proof.Gates.lean ====
/-
  The gates and values the first region leaves, node by node: a block of a result is that result's rows, the node rows it is
  computed from are the array's, and past the last node stand the mask and zero.
-/
module

public import proofs.«01_k».proof.Proof.Payloads
public import proofs.«01_k».proof.Proof.Weights
public import proofs.«01_k».proof.Proof.Main
public import proofs.«01_k».proof.Proof.Spec

@[expose] public section

set_option maxRecDepth 16384

noncomputable section

namespace Cert.Proof.Seg

open Cert.KernelIdeal Cert.KernelIdeal.Gen
open Idealize.ShloMosaic Idealize.ShloMosaic.Pipeline

/-- The one grid coordinate of a point is the point's number. -/
theorem coords0 (t : Fin grid0.N) : ((grid0.coords t 0 : Fin _) : ℕ) = t.val := by
  revert t; decide

/-- Block `t` of the node rows starts at row block `t`. -/
theorem index0_0 (t : Fin grid0.N) : win0_0.index t 0 = t.val := by revert t; decide

/-- Every block of the node rows spans all the columns. -/
theorem index0_1 (t : Fin grid0.N) : win0_0.index t 1 = 0 := by revert t; decide

/-- Block `t` of the gates is the `t`-th. -/
theorem index4 (t : Fin grid0.N) : win0_4.index t 0 = t.val := by revert t; decide

/-- Block `t` of the values is the `t`-th. -/
theorem index5 (t : Fin grid0.N) : win0_5.index t 0 = t.val := by revert t; decide

/-- Element `r` of block `t` of the gates is node `7168 t + r`. -/
theorem read0_4 (t : Fin grid0.N) (g : Vec Ideal S100352 .f32) (r : Fin 7168) (n : Fin 100352) (h : n.val = 7168 * t.val + r.val) :
    (win0_4.blk t).view.read (Elt Ideal) g (ix1 r) = g (ix1 n) := by
  refine congrArg g (funext fun a => ?_)
  fin_cases a
  apply Fin.ext
  refine (Window.rect_emb_val win0_4 t (ix1 r) 0).trans ?_
  rw [index4]
  show t.val * 7168 + r.val = n.val
  omega

/-- Element `r` of block `t` of the values is node `7168 t + r`. -/
theorem read0_5 (t : Fin grid0.N) (g : Vec Ideal S100352 .f32) (r : Fin 7168) (n : Fin 100352) (h : n.val = 7168 * t.val + r.val) :
    (win0_5.blk t).view.read (Elt Ideal) g (ix1 r) = g (ix1 n) := by
  refine congrArg g (funext fun a => ?_)
  fin_cases a
  apply Fin.ext
  refine (Window.rect_emb_val win0_5 t (ix1 r) 0).trans ?_
  rw [index5]
  show t.val * 7168 + r.val = n.val
  omega

/-- How many rows of its block a point fetches: those within the array. -/
theorem xsize0 (t : Fin grid0.N) : (win0_0.xblock (grid0.coords t)).size 0 = min 7168 (100000 - 7168 * t.val) := by
  revert t; decide

/-- A row of the block that is a node's row of the array is staged as it stands there. -/
theorem xrows_apply (x : Vec Ideal S100000x256 .f32) (t : Fin grid0.N) (d : S7168x256.Idx → Elt Ideal .f32) (r : Fin 7168) (j : Fin 256)
    (n : Fin 100000) (h : n.val = 7168 * t.val + r.val) : xrows x t d (ix2 r j) = x (ix2 n j) := by
  have hn := n.isLt
  have hm : win0_0.moved (grid0.coords t) (ix2 r j) = true := by
    rw [Window.moved_iff]
    intro a
    fin_cases a
    · show r.val < (win0_0.xblock (grid0.coords t)).size 0
      rw [xsize0]; have := r.isLt; omega
    · exact j.isLt
  show win0_0.fill _ _ _ _ = _
  unfold Window.fill
  rw [dif_pos hm]
  refine congrArg x (funext fun a => ?_)
  apply Fin.ext
  refine (Window.rect_emb_val win0_0 t _ a).trans ?_
  fin_cases a
  · show win0_0.index t 0 * 7168 + r.val = n.val
    rw [index0_0]; omega
  · show win0_0.index t 1 * 256 + j.val = j.val
    rw [index0_1]; omega

/-- A sum over the thirty-two packed columns whose terms past the sixteenth are zero. -/
theorem sum_half (f : Fin 32 → EReal) (h : ∀ k : Fin 32, 16 ≤ k.val → f k = 0) :
    ∑ k : Fin 32, f k = ∑ k : Fin 16, f ⟨k.val, by omega⟩ := by
  rw [show (∑ k : Fin 32, f k) = ∑ k : Fin (16 + 16), f k from rfl, Fin.sum_univ_add]
  have h0 : ∑ k : Fin 16, f (Fin.natAdd 16 k) = 0 := Finset.sum_eq_zero fun k _ => h _ (by show 16 ≤ 16 + k.val; omega)
  rw [h0, add_zero]
  rfl

/-- Every padded node stands in one block, at one element of it. -/
theorem point_of (n : Fin 100352) : ∃ (t : Fin grid0.N) (r : Fin 7168), n.val = 7168 * t.val + r.val :=
  ⟨⟨n.val / 7168, by have hN : grid0.N = 14 := rfl; have := n.isLt; omega⟩, ⟨n.val % 7168, Nat.mod_lt _ (by omega)⟩,
    (Nat.div_add_mod _ _).symm⟩

/-- The second layer's weights as a list of sixteen. -/
theorem flat_apply (w2 : Vec Ideal S16x1 .f32) (h2) (k : Fin 16) : shapeCast S16 w2 h2 (ix1 k) = w2 (ix2 k 0) := by
  pointwise

/-- The gates of the first region: the two layers at a node, the mask after the last. -/
theorem gate_apply {x : Vec Ideal S100000x256 .f32} {w1 : Vec Ideal S256x16 .f32} {b1 : Vec Ideal S16 .f32} {w2 : Vec Ideal S16x1 .f32}
    {wo : Vec Ideal S256x1 .f32} {h2} {g : Vec Ideal S100352 .f32} (hg : GateOK x (wcatOf w1 wo) (colOf b1) (colOf (shapeCast S16 w2 h2)) g)
    (n : Fin 100352) : (g (ix1 n) : EReal) = if h : n.val < 100000 then gateOf x w1 b1 w2 ⟨n.val, h⟩ else ⊥ := by
  obtain ⟨t, r, hk⟩ := point_of n
  obtain ⟨d, hd⟩ := hg t
  rw [← read0_4 t g r n hk, hd, pay3_apply, coords0, ← hk]
  split
  · rename_i hlt
    rw [sum_half _ fun k hk16 => ?_]
    · rw [gateOf]
      refine Finset.sum_congr rfl fun k _ => ?_
      rw [col_top, col_top, flat_apply]
      congr 3
      refine Finset.sum_congr rfl fun j _ => ?_
      rw [wcat_left, xrows_apply _ _ _ _ _ ⟨n.val, hlt⟩ hk]
    · rw [col_rest (shapeCast S16 w2 h2) k hk16]
      show _ * (Ideal.ofBits .f32 0x00000000#32 : EReal) = 0
      rw [Ideal.ofBits_zero, mul_zero]
  · rfl

/-- The values of the first region: a node's row against the output weights, zero after the last node. -/
theorem value_apply {x : Vec Ideal S100000x256 .f32} {w1 : Vec Ideal S256x16 .f32} {wo : Vec Ideal S256x1 .f32} {y : Vec Ideal S100352 .f32}
    (hy : ValueOK x (wcatOf w1 wo) y) (n : Fin 100352) :
    (y (ix1 n) : EReal) = if h : n.val < 100000 then valueOf x wo ⟨n.val, h⟩ else 0 := by
  obtain ⟨t, r, hk⟩ := point_of n
  obtain ⟨d, hd⟩ := hy t
  rw [← read0_5 t y r n hk, hd, pay4_apply, coords0, ← hk]
  split
  · rename_i hlt
    rw [valueOf]
    refine Finset.sum_congr rfl fun j _ => ?_
    rw [wcat_mid, xrows_apply _ _ _ _ _ ⟨n.val, hlt⟩ hk]
  · rfl

end Cert.Proof.Seg
-- ==== Proof.Tables.lean ====
/-
  The lane-split tables in closed form. A group adds, in each lane's row, the lane's entry at the column its id names; after
  its 196 groups a subcore's row holds the sums over that lane's nodes; and the sum of a column over all 512 rows is the
  sum over every node the column names.
-/
module

public import proofs.«01_k».proof.Proof.Call
public import Idealize.ShloMosaic.Lib.Pointwise

@[expose] public section

set_option maxRecDepth 16384

noncomputable section

namespace Cert.Proof.Seg

open Cert.KernelIdeal Cert.KernelIdeal.Gen
open Idealize.ShloMosaic

/-- What one lane of a group does to a table. -/
def laneStep (i : IVec S16 32) (v : Vec Ideal S16 .f32) (h : ∀ a x, ((![lane, i] : Fin 2 → IVec S16 32) a x).toNat < S16x513.size a)
    (g : Vec Ideal S16x513 .f32) (k : Fin 16) : Vec Ideal S16x513 .f32 :=
  let x : S16.Idx := Shape.ofLane (d := S16.size) k
  let p : S16x513.Idx := idxAt ![lane, i] h x
  fun j => if ∀ a, (j a).val = (p a).val then (g p : EReal) + v x else g j

/-- Lane `k` changes row `k` alone, at the column its id names. -/
theorem laneStep_apply (i : IVec S16 32) (v : Vec Ideal S16 .f32) (h) (g : Vec Ideal S16x513 .f32) (k r : Fin 16) (q : Fin 513) :
    (laneStep i v h g k (ix2 r q) : EReal) = g (ix2 r q) + if k = r ∧ (i (ix1 r)).toNat = q.val then (v (ix1 r) : EReal) else 0 := by
  have e1 : (lane (Shape.ofLane (d := S16.size) k)).toNat = k.val := lane_apply _
  have ek : (Shape.ofLane (d := S16.size) k : S16.Idx) = ix1 k := by funext a; fin_cases a; rfl
  unfold laneStep
  rw [ek] at e1 ⊢
  have hc : (∀ a, ((ix2 r q : S16x513.Idx) a).val = ((idxAt ![lane, i] h (ix1 k) : S16x513.Idx) a).val) ↔ k = r ∧ (i (ix1 r)).toNat = q.val := by
    rw [Fin.forall_fin_two]
    show r.val = (lane (ix1 k)).toNat ∧ q.val = (i (ix1 k)).toNat ↔ _
    rw [e1]
    constructor
    · rintro ⟨a, b⟩
      have := Fin.ext a
      subst this
      exact ⟨rfl, b.symm⟩
    · rintro ⟨rfl, b⟩
      exact ⟨rfl, b.symm⟩
  show (if _ then _ else _) = _
  by_cases hh : k = r ∧ (i (ix1 r)).toNat = q.val
  · rw [if_pos (hc.mpr hh), if_pos hh]
    have ej : (idxAt ![lane, i] h (ix1 k) : S16x513.Idx) = ix2 r q := funext fun a => Fin.ext (hc.mpr hh a).symm
    rw [ej, hh.1]
  · rw [if_neg (fun h' => hh (hc.mp h')), if_neg hh, add_zero]

/-- Distinct lanes one after another: each has added its entry where its id names the column. -/
theorem lanes_apply (i : IVec S16 32) (v : Vec Ideal S16 .f32) (h) (r : Fin 16) (q : Fin 513) :
    ∀ (l : List (Fin 16)), l.Nodup → ∀ g : Vec Ideal S16x513 .f32,
      (l.foldl (laneStep i v h) g (ix2 r q) : EReal) = g (ix2 r q) + if r ∈ l ∧ (i (ix1 r)).toNat = q.val then (v (ix1 r) : EReal) else 0
  | [], _, g => by simp
  | k :: l, hl, g => by
    rw [List.foldl_cons, lanes_apply i v h r q l (List.nodup_cons.mp hl).2, laneStep_apply, add_assoc]
    congr 1
    by_cases hk : k = r
    · subst hk
      have hm := (List.nodup_cons.mp hl).1
      by_cases hq : (i (ix1 k)).toNat = q.val <;> simp [hm, hq]
    · have hk' : r ≠ k := fun e => hk e.symm
      simp [hk, hk']

/-- A group's sixteen entries added into a table. -/
theorem group_apply (f : Vec Ideal S16x513 .f32) (i : IVec S16 32) (v : Vec Ideal S16 .f32) (h) (r : Fin 16) (q : Fin 513) :
    (storeIdx f ![lane, i] v (fun _ => 1#1) true h (ix2 r q) : EReal)
      = f (ix2 r q) + if (i (ix1 r)).toNat = q.val then (v (ix1 r) : EReal) else 0 := by
  have e : storeIdx f ![lane, i] v (fun _ => 1#1) true h = (List.finRange 16).foldl (laneStep i v h) f := by
    unfold storeIdx
    refine congrArg (fun s => (List.finRange 16).foldl s f) (funext fun g => funext fun k => ?_)
    dsimp only
    refine (if_pos (show (1#1 : BitVec 1) = 1 from rfl)).trans (funext fun j => ?_)
    unfold laneStep
    dsimp only
    by_cases hc : ∀ a, (j a).val = ((idxAt ![lane, i] h (Shape.ofLane (d := S16.size) k) : S16x513.Idx) a).val
    · exact (if_pos hc).trans (if_pos hc).symm
    · exact (if_neg hc).trans (if_neg hc).symm
  rw [e, lanes_apply i v h r q _ (List.nodup_finRange 16)]
  simp

/-- A subcore's denominator row: the exponentials of its lane's nodes whose id is the column. -/
theorem den_apply (g : Vec Ideal S3136 .f32) (ids : Vec Ideal S3136 .i32) (h : IdsOK ids) (f₀ : Vec Ideal S16x513 .f32) (r : Fin 16) (q : Fin 513) :
    ∀ n, (denN g ids h f₀ n (ix2 r q) : EReal)
      = f₀ (ix2 r q) + ∑ i ∈ Finset.range n, if (ids (pos i (ix1 r)) : BitVec 32).toNat = q.val then Ideal.exp (g (pos i (ix1 r))) else 0
  | 0 => by simp [denN]
  | n + 1 => by
    rw [Finset.sum_range_succ, ← add_assoc, ← den_apply g ids h f₀ r q n]
    exact group_apply _ _ _ _ r q

/-- A subcore's numerator row: the exponentials of its lane's nodes whose id is the column, times their values. -/
theorem num_apply (g y : Vec Ideal S3136 .f32) (ids : Vec Ideal S3136 .i32) (h : IdsOK ids) (f₀ : Vec Ideal S16x513 .f32) (r : Fin 16) (q : Fin 513) :
    ∀ n, (numN g y ids h f₀ n (ix2 r q) : EReal)
      = f₀ (ix2 r q) + ∑ i ∈ Finset.range n,
          if (ids (pos i (ix1 r)) : BitVec 32).toNat = q.val then Ideal.exp (g (pos i (ix1 r))) * (y (pos i (ix1 r)) : EReal) else 0
  | 0 => by simp [numN]
  | n + 1 => by
    rw [Finset.sum_range_succ, ← add_assoc, ← num_apply g y ids h f₀ r q n]
    exact group_apply _ _ _ _ r q

/-- The tables' 512 rows are the subcores' sixteen rows each. -/
def rowsEquiv : (Fin 2 × Fin 16) × Fin 16 ≃ Fin 512 where
  toFun t := ⟨256 * t.1.1.val + 16 * t.1.2.val + t.2.val, by have := t.1.1.isLt; have := t.1.2.isLt; have := t.2.isLt; omega⟩
  invFun x := ((⟨x.val / 256, by omega⟩, ⟨x.val % 256 / 16, by omega⟩), ⟨x.val % 16, by omega⟩)
  left_inv t := by
    obtain ⟨⟨a, b⟩, c⟩ := t
    refine Prod.ext (Prod.ext (Fin.ext ?_) (Fin.ext ?_)) (Fin.ext ?_) <;> simp only <;> omega
  right_inv x := by apply Fin.ext; simp only; omega

/-- The padded nodes are the 196 nodes of each lane of each subcore. -/
def nodesEquiv : ((Fin 2 × Fin 16) × Fin 16) × Fin 196 ≃ Fin 100352 where
  toFun t := ⟨50176 * t.1.1.1.val + 3136 * t.1.1.2.val + 16 * t.2.val + t.1.2.val,
    by have := t.1.1.1.isLt; have := t.1.1.2.isLt; have := t.1.2.isLt; have := t.2.isLt; omega⟩
  invFun x := (((⟨x.val / 50176, by omega⟩, ⟨x.val % 50176 / 3136, by omega⟩), ⟨x.val % 16, by omega⟩), ⟨x.val % 3136 / 16, by omega⟩)
  left_inv t := by
    obtain ⟨⟨⟨a, b⟩, c⟩, i⟩ := t
    refine Prod.ext (Prod.ext (Prod.ext (Fin.ext ?_) (Fin.ext ?_)) (Fin.ext ?_)) (Fin.ext ?_) <;> simp only <;> omega
  right_inv x := by apply Fin.ext; simp only; omega

/-- Node `16 i + r` of a subcore, in the whole array. -/
theorem row_node {α : Type} (p : Fin 2 × Fin 16) (f : S100352.Idx → α) (i : Fin 196) (r : Fin 16) :
    rowOf (coordsP p) f (pos i.val (ix1 r)) = f (ix1 (nodesEquiv ((p, r), i))) := by
  refine congrArg f (funext fun a => Fin.ext ?_)
  rw [Fin.eq_zero a]
  show k1_off1 (coordsP p) 0 + 1 * ((16 * i.val + r.val) % 3136) = 50176 * p.1.val + 3136 * p.2.val + 16 * i.val + r.val
  rw [off1_val]
  have := i.isLt; have := r.isLt
  omega

/-- Row `r` of a subcore's table, in the whole table. -/
theorem out_row {α : Type} (p : Fin 2 × Fin 16) (f : S512x513.Idx → α) (r : Fin 16) (q : Fin 513) :
    outOf (coordsP p) f (ix2 r q) = f (ix2 (rowsEquiv (p, r)) q) := by
  refine congrArg f (funext fun a => Fin.ext ?_)
  fin_cases a
  · show k1_off17 (coordsP p) 0 + 1 * r.val = 256 * p.1.val + 16 * p.2.val + r.val
    rw [off17_val]; omega
  · show k1_off17 (coordsP p) 1 + 1 * q.val = q.val
    rw [off17_val1]; omega

/-- If every row of a table holds the sums over its lane's nodes, a column's sum over the rows is the sum over all nodes. -/
theorem rows_sum (T : Vec Ideal S512x513 .f32) (e : Fin 100352 → EReal) (q : Fin 513)
    (h : ∀ p r, (T (ix2 (rowsEquiv (p, r)) q) : EReal) = ∑ i : Fin 196, e (nodesEquiv ((p, r), i))) :
    ∑ x : Fin 512, (T (ix2 x q) : EReal) = ∑ n, e n := by
  rw [← Equiv.sum_comp rowsEquiv, ← Equiv.sum_comp nodesEquiv, Fintype.sum_prod_type (f := fun t => e (nodesEquiv t))]
  exact Finset.sum_congr rfl fun t _ => h t.1 t.2

/-- What is asked of the subcores' tables, over the gates and values as functions of the node. -/
def Filled (G Y : Fin 100352 → EReal) (ids : Vec Ideal S100352 .i32) (den num : Vec Ideal S512x513 .f32) : Prop :=
  ∀ p, ∃ g y : Vec Ideal S100352 .f32, (∀ n, (g (ix1 n) : EReal) = G n) ∧ (∀ n, (y (ix1 n) : EReal) = Y n) ∧ TileOut (coordsP p) g y ids den num

/-- A column of the denominator table over all rows: the exponentials of the nodes its id names. -/
theorem den_sum {G Y : Fin 100352 → EReal} {ids : Vec Ideal S100352 .i32} {den num : Vec Ideal S512x513 .f32} (h : Filled G Y ids den num)
    (q : Fin 513) (hq : q.val < 512) :
    ∑ x : Fin 512, (den (ix2 x q) : EReal) = ∑ n, if (ids (ix1 n) : BitVec 32).toNat = q.val then Ideal.exp (G n) else 0 := by
  refine rows_sum den _ q fun p r => ?_
  obtain ⟨g, y, hg, -, hI, f₀, e₀, hf, -, hd, -⟩ := h p
  rw [← out_row p den r q, hd, den_apply, hf _ hq]
  show (Ideal.ofBits .f32 0x00000000#32 : EReal) + _ = _
  rw [Ideal.ofBits_zero, zero_add, ← Fin.sum_univ_eq_sum_range (fun i => if (rowOf (coordsP p) ids (pos i (ix1 r)) : BitVec 32).toNat = q.val
    then Ideal.exp (rowOf (coordsP p) g (pos i (ix1 r))) else 0) 196]
  refine Finset.sum_congr rfl fun i _ => ?_
  rw [row_node, row_node, hg]

/-- A column of the numerator table over all rows: the exponentials of the nodes its id names, times their values. -/
theorem num_sum {G Y : Fin 100352 → EReal} {ids : Vec Ideal S100352 .i32} {den num : Vec Ideal S512x513 .f32} (h : Filled G Y ids den num)
    (q : Fin 513) (hq : q.val < 512) :
    ∑ x : Fin 512, (num (ix2 x q) : EReal) = ∑ n, if (ids (ix1 n) : BitVec 32).toNat = q.val then Ideal.exp (G n) * Y n else 0 := by
  refine rows_sum num _ q fun p r => ?_
  obtain ⟨g, y, hg, hy, hI, f₀, e₀, -, he, -, hn⟩ := h p
  rw [← out_row p num r q, hn, num_apply, he _ hq]
  show (Ideal.ofBits .f32 0x00000000#32 : EReal) + _ = _
  rw [Ideal.ofBits_zero, zero_add, ← Fin.sum_univ_eq_sum_range (fun i => if (rowOf (coordsP p) ids (pos i (ix1 r)) : BitVec 32).toNat = q.val
    then Ideal.exp (rowOf (coordsP p) g (pos i (ix1 r))) * (rowOf (coordsP p) y (pos i (ix1 r)) : EReal) else 0) 196]
  refine Finset.sum_congr rfl fun i _ => ?_
  rw [row_node, row_node, row_node, hg, hy]

end Cert.Proof.Seg
-- ==== Proof.Reference.lean ====
/-
  What the reference computes, stage by stage: its result is the composition of the stages, and each stage is read at an index.
-/
module

public import proofs.«01_k».proof.Proof.Gen.ReferenceIdeal.Run
public import proofs.«01_k».proof.Proof.Pre
public import proofs.«01_k».proof.Proof.Spec
public import Idealize.ShloMosaic.Lib.Pointwise
public import Idealize.ShloMosaic.Lib.Routing.OpsPair
public import Idealize.ShloMosaic.Lib.StableHlo.Predicate

@[expose] public section

set_option maxRecDepth 16384

noncomputable section

namespace Cert.Proof.Ref

open Cert.ReferenceIdeal Cert.ReferenceIdeal.Gen
open Idealize.ShloMosaic Idealize.ShloMosaic.TcCoe
open Idealize.ShloMosaic.StableHlo.Predicate

/-- The gates: two layers over the node rows. -/
def gate (x : FVec Ideal S100000x256 .f32) (w1 : FVec Ideal S256x16 .f32) (b1 : FVec Ideal S16 .f32) (w2 : FVec Ideal S16x1 .f32)
    (b2 : FVec Ideal S1 .f32) : FVec Ideal S100000 .f32 :=
  shapeCast _ (addf (Host.dotGeneral dot_S100000x16_S16x1_S100000x1_1_0_0_1_n_n none
      (maximumf (addf (Host.dotGeneral dot_S100000x256_S256x16_S100000x16_1_0_0_1_n_n none x w1)
        (broadcastInDim S100000x16 ![0, 1] bcast_S1x16_S100000x16_0_1 (broadcastInDim S1x16 ![1] bcast_S16_S1x16_1 b1)))
        (broadcastInDim S100000x16 ![] bcast_S_S100000x16 (constant S_ .f32 0x00000000#32))) w2)
    (broadcastInDim S100000x1 ![0, 1] bcast_S1x1_S100000x1_0_1 (broadcastInDim S1x1 ![1] bcast_S1_S1x1_1 b2))) shapeCasts_S100000x1_S100000

/-- The segments' largest gates, −∞ for an empty one. -/
def rawMax (ids : IVec S100000 32) (g : FVec Ideal S100000 .f32) : FVec Ideal S512 .f32 :=
  Host.reduce FloatOps.maximumf
    (select (cmpi .eq (broadcastInDim S512x100000 ![0, 1] bcast_S1x100000_S512x100000_0_1 (broadcastInDim S1x100000 ![1] bcast_S100000_S1x100000_1 ids))
        (broadcastInDim S512x100000 ![0, 1] bcast_S512x1_S512x100000_0_1 (broadcastInDim S512x1 ![0] bcast_S512_S512x1_0 (iotaInDim S512 32 0))))
      (broadcastInDim S512x100000 ![0, 1] bcast_S1x100000_S512x100000_0_1 (broadcastInDim S1x100000 ![1] bcast_S100000_S1x100000_1 g))
      (broadcastInDim S512x100000 ![] bcast_S_S512x100000 (id (constant S_ .f32 0xFF800000#32))))
    (constant S_ .f32 0xFF800000#32) reducesTo_S512x100000_S512_d1 h_S_

/-- The shifts: the largest gates where finite, zero elsewhere. -/
def shift (s : FVec Ideal S512 .f32) : FVec Ideal S512 .f32 :=
  select (cmpf .olt (Host.absf s) (broadcastInDim S512 ![] bcast_S_S512 (constant S_ .f32 0x7F800000#32))) s
    (broadcastInDim S512 ![] bcast_S_S512 (id (constant S_ .f32 0x00000000#32)))

/-- A per-segment array read at every node's id. -/
def atIds (t : FVec Ideal S512 .f32) (ids : IVec S100000 32) : FVec Ideal S100000 .f32 :=
  Host.gather gather_S512_S100000x1_S100000_n_0_n_n_0_1_1 t
    (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 512#32))) ids))

/-- The sums over the segments. -/
def segSum (e : FVec Ideal S100000 .f32) (ids : IVec S100000 32) : FVec Ideal S512 .f32 :=
  Host.scatterAdd scatter_S512_S100000x1_S100000_n_0_0_1 (broadcastInDim S512 ![] bcast_S_S512 (constant S_ .f32 0x00000000#32))
    (broadcastInDim S100000x1 ![0] bcast_S100000_S100000x1_0 ids) e

/-- The shifted exponentials. -/
def expGate (g : FVec Ideal S100000 .f32) (s : FVec Ideal S512 .f32) (ids : IVec S100000 32) : FVec Ideal S100000 .f32 :=
  Host.exp (subf g (atIds s ids))

/-- The regulariser. -/
def reg (b2 : FVec Ideal S1 .f32) (s : FVec Ideal S512 .f32) : FVec Ideal S512 .f32 :=
  mulf (broadcastInDim S512 ![] bcast_S_S512 (constant S_ .f32 0x24E69595#32)) (Host.exp (subf (broadcastInDim S512 ![0] bcast_S1_S512_0 b2) s))

/-- The attention weights. -/
def weight (e : FVec Ideal S100000 .f32) (den eps : FVec Ideal S512 .f32) (ids : IVec S100000 32) : FVec Ideal S100000 .f32 :=
  Host.divf e (addf (atIds den ids) (atIds eps ids))

/-- The weighted rows, pooled over the segments. -/
def pool (x : FVec Ideal S100000x256 .f32) (a : FVec Ideal S100000 .f32) (ids : IVec S100000 32) : FVec Ideal S512x256 .f32 :=
  Host.scatterAdd scatter_S512x256_S100000x1_S100000x256_1_0_0_1 (broadcastInDim S512x256 ![] bcast_S_S512x256 (constant S_ .f32 0x00000000#32))
    (broadcastInDim S100000x1 ![0] bcast_S100000_S100000x1_0 ids)
    (mulf x (broadcastInDim S100000x256 ![0, 1] bcast_S100000x1_S100000x256_0_1 (broadcastInDim S100000x1 ![0] bcast_S100000_S100000x1_0 a)))

/-- The last layer. -/
def out (p : FVec Ideal S512x256 .f32) (wo : FVec Ideal S256x1 .f32) (bo : FVec Ideal S1 .f32) : FVec Ideal S512x1 .f32 :=
  addf (Host.dotGeneral dot_S512x256_S256x1_S512x1_1_0_0_1_n_n none p wo)
    (broadcastInDim S512x1 ![0, 1] bcast_S1x1_S512x1_0_1 (broadcastInDim S1x1 ![1] bcast_S1_S1x1_1 bo))

/-- The stages in order. -/
def result (x : FVec Ideal S100000x256 .f32) (ids : IVec S100000 32) (w1 : FVec Ideal S256x16 .f32) (b1 : FVec Ideal S16 .f32)
    (w2 : FVec Ideal S16x1 .f32) (b2 : FVec Ideal S1 .f32) (wo : FVec Ideal S256x1 .f32) (bo : FVec Ideal S1 .f32) : FVec Ideal S512x1 .f32 :=
  let g := gate x w1 b1 w2 b2
  let s := shift (rawMax ids g)
  let e := expGate g s ids
  out (pool x (weight e (segSum e ids) (reg b2 s) ids) ids) wo bo

/-- The program's result is the stages' composition. -/
theorem result_eq (m : (ℓ : Loc nD τ sig) → Buf (Elt Ideal) ℓ) (c : Dev nD) :
    Value.res_main_v66 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_main_v66
  rfl

/-- A gate: the two layers at a node, and the offset. -/
theorem gate_apply (x : FVec Ideal S100000x256 .f32) (w1 : FVec Ideal S256x16 .f32) (b1 : FVec Ideal S16 .f32) (w2 : FVec Ideal S16x1 .f32)
    (b2 : FVec Ideal S1 .f32) (n : Fin 100000) : (gate x w1 b1 w2 b2 (ix1 n) : EReal) = Seg.gateOf x w1 b1 w2 n + b2 (ix1 0) := by
  unfold Seg.gateOf
  pointwise [gate]

/-- A shift is a real number, whatever the largest gate is. -/
theorem shift_real (s : FVec Ideal S512 .f32) (q : Fin 512) : ∃ r : ℝ, (shift s (ix1 q) : EReal) = (r : EReal) := by
  have e : shift s (ix1 q) = Scalar.select (FloatOps.cmpf .olt (FloatOps.hostAbsf (s (ix1 q))) (FloatOps.ofBits (F := Ideal) .f32 0x7F800000#32))
      (s (ix1 q)) (FloatOps.ofBits (F := Ideal) .f32 0x00000000#32) := rfl
  rw [e]
  unfold Scalar.select
  split
  · rename_i h
    obtain ⟨h1, h2⟩ := finite_of_olt h
    exact ⟨(s (ix1 q) : EReal).toReal, (EReal.coe_toReal h1 h2).symm⟩
  · exact ⟨0, (Ideal.ofBits_zero _).trans EReal.coe_zero.symm⟩

/-- A per-segment array read at a node in range: the entry its id names. -/
theorem atIds_apply (t : FVec Ideal S512 .f32) (ids : IVec S100000 32) (h : IdsIn ids) (n : Fin 100000) :
    atIds t ids (ix1 n) = t (ix1 ⟨(ids (ix1 n)).toNat, h _⟩) := by
  have hi := h (ix1 n)
  unfold atIds
  have e1 : (ix1 n : S100000.Idx) = Shape.Idx.ofFin n := by funext a; fin_cases a; rfl
  conv_lhs => rw [e1]
  rw [gather_take _ rfl rfl rfl rfl _ _ n (by omega)]
  refine congrArg t (funext fun a => Fin.ext ?_)
  rw [Fin.eq_zero a]
  have ew : (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 512#32))) ids)) (ixP n) = ids (ix1 n) := by
    exact (congrArg (fun i : S100000.Idx => Scalar.select (IntOp.cmpi .slt (ids i) 0#32) (IntOp.addi (ids i) 512#32) (ids i)) (eq_ix1 _)).trans
      (Routing.wrap_of_lt (ids (ix1 n)) _ (by omega))
  have key : ∀ w : BitVec 32, w = ids (ix1 n) → min w.toInt.toNat (512 - 1) = (ids (ix1 n)).toNat := by
    rintro w rfl
    rw [BitVec.toInt_eq_toNat_cond]
    split <;> omega
  exact key _ ew

/-- A weight: a node's exponential over its segment's sum and regulariser. -/
theorem weight_apply (e : FVec Ideal S100000 .f32) (den eps : FVec Ideal S512 .f32) (ids : IVec S100000 32) (h : IdsIn ids) (n : Fin 100000) :
    (weight e den eps ids (ix1 n) : EReal)
      = Ideal.div (e (ix1 n)) ((den (ix1 ⟨(ids (ix1 n)).toNat, h _⟩) : EReal) + (eps (ix1 ⟨(ids (ix1 n)).toNat, h _⟩) : EReal)) := by
  rw [← atIds_apply den ids h, ← atIds_apply eps ids h]
  rfl

/-- Where a node's entry is added: at the segment its id names. -/
theorem lands (ids : IVec S100000 32) (h : IdsIn ids) (n : Fin 100000) (q : Fin 512) :
    scatter_S512_S100000x1_S100000_n_0_0_1.resultIdx? (ix1 n) (broadcastInDim S100000x1 ![0] bcast_S100000_S100000x1_0 ids) = some (ix1 q)
      ↔ (ids (ix1 n)).toNat = q.val := by
  have hi := h (ix1 n)
  rw [Routing.resultIdx?_eq_some]
  have e0 : scatter_S512_S100000x1_S100000_n_0_0_1.start (ix1 n) (broadcastInDim S100000x1 ![0] bcast_S100000_S100000x1_0 ids) 0
      = (ids (ix1 n)).toInt := by
    show (ids _).toInt = _
    congr 2
    exact eq_ix1 _
  have w0 : scatter_S512_S100000x1_S100000_n_0_0_1.window (ix1 n) 0 = 0 := rfl
  have ei : (ids (ix1 n)).toInt = ((ids (ix1 n)).toNat : Int) := by
    rw [BitVec.toInt_eq_toNat_cond]; split <;> omega
  constructor
  · intro hh
    have := hh 0
    rw [e0, w0, ei] at this
    have e : ((ix1 q : S512.Idx) 0).val = q.val := rfl
    omega
  · intro hh a
    rw [Fin.eq_zero a, e0, w0, ei, hh]
    simp

/-- A segment's sum: over the nodes whose id names it. -/
theorem segSum_apply (e : FVec Ideal S100000 .f32) (ids : IVec S100000 32) (h : IdsIn ids) (q : Fin 512) :
    (segSum e ids (ix1 q) : EReal) = ∑ n : Fin 100000, if (ids (ix1 n)).toNat = q.val then (e (ix1 n) : EReal) else 0 := by
  show Ideal.hostScatterAdd _ _ _ _ _ = _
  unfold Ideal.hostScatterAdd
  show (Ideal.ofBits .f32 0x00000000#32 : EReal) + _ = _
  rw [Ideal.ofBits_zero, zero_add, Finset.sum_filter, sum_idx1]
  refine Finset.sum_congr rfl fun n _ => ?_
  simp only [lands ids h n q]

/-- Where a row's entry is added: in the row its id names, at its own column. -/
theorem lands_row (ids : IVec S100000 32) (h : IdsIn ids) (n : Fin 100000) (j : Fin 256) (q : Fin 512) (j' : Fin 256) :
    scatter_S512x256_S100000x1_S100000x256_1_0_0_1.resultIdx? (ix2 n j) (broadcastInDim S100000x1 ![0] bcast_S100000_S100000x1_0 ids) = some (ix2 q j')
      ↔ (ids (ix1 n)).toNat = q.val ∧ j = j' := by
  have hi := h (ix1 n)
  rw [Routing.resultIdx?_eq_some, Fin.forall_fin_two]
  have e0 : scatter_S512x256_S100000x1_S100000x256_1_0_0_1.start (ix2 n j) (broadcastInDim S100000x1 ![0] bcast_S100000_S100000x1_0 ids) 0
      = (ids (ix1 n)).toInt := by
    show (ids _).toInt = _
    congr 2
    exact eq_ix1 _
  have e1 : scatter_S512x256_S100000x1_S100000x256_1_0_0_1.start (ix2 n j) (broadcastInDim S100000x1 ![0] bcast_S100000_S100000x1_0 ids) 1 = 0 := rfl
  have w0 : scatter_S512x256_S100000x1_S100000x256_1_0_0_1.window (ix2 n j) 0 = 0 := rfl
  have w1 : scatter_S512x256_S100000x1_S100000x256_1_0_0_1.window (ix2 n j) 1 = j.val := rfl
  have ei : (ids (ix1 n)).toInt = ((ids (ix1 n)).toNat : Int) := by
    rw [BitVec.toInt_eq_toNat_cond]; split <;> omega
  rw [e0, e1, w0, w1, ei, Fin.ext_iff]
  show _ = (q.val : Int) ∧ _ = (j'.val : Int) ↔ _
  omega

/-- A pooled row's entry: the weighted rows' entries of the nodes whose id names it. -/
theorem pool_apply (x : FVec Ideal S100000x256 .f32) (a : FVec Ideal S100000 .f32) (ids : IVec S100000 32) (h : IdsIn ids)
    (q : Fin 512) (j : Fin 256) :
    (pool x a ids (ix2 q j) : EReal)
      = ∑ n : Fin 100000, if (ids (ix1 n)).toNat = q.val then (x (ix2 n j) : EReal) * (a (ix1 n) : EReal) else 0 := by
  show Ideal.hostScatterAdd _ _ _ _ _ = _
  unfold Ideal.hostScatterAdd
  show (Ideal.ofBits .f32 0x00000000#32 : EReal) + _ = _
  rw [Ideal.ofBits_zero, zero_add, Finset.sum_filter, sum_idx2]
  refine Finset.sum_congr rfl fun n _ => ?_
  rw [Finset.sum_eq_single j]
  · simp only [lands_row ids h n j q j, and_true]
    refine if_congr Iff.rfl ?_ rfl
    show (x (ix2 n j) : EReal) * (a _ : EReal) = _
    congr 2
    exact eq_ix1 _
  · intro j' _ hj
    rw [if_neg]
    rw [lands_row ids h]
    exact fun hh => hj hh.2
  · exact fun hh => absurd (Finset.mem_univ _) hh

/-- A result: a pooled row against the output weights, and the offset. -/
theorem out_apply (p : FVec Ideal S512x256 .f32) (wo : FVec Ideal S256x1 .f32) (bo : FVec Ideal S1 .f32) (q : Fin 512) :
    (out p wo bo (ix2 q 0) : EReal) = (∑ j : Fin 256, (p (ix2 q j) : EReal) * (wo (ix2 j 0) : EReal)) + bo (ix1 0) := by
  pointwise [out]

end Cert.Proof.Ref
-- ==== Proof.Average.lean ====
/-
  The equation. Shifting every exponent of a segment by one number, and the regulariser with it, multiplies the weights'
  numerators and denominators by one positive factor; and averaging rows before or after the last layer is the same sum in
  another order. Where a gate is infinite the sums of exponentials are too, and both averages are zero.
-/
module

public import proofs.«01_k».proof.Proof.Spec

@[expose] public section

noncomputable section

namespace Cert.Proof.Seg

open Idealize.ShloMosaic

/-- One segment's scaled, regularised average of rows against the last layer is the quotient of the unscaled sums, for real exponentials. -/
theorem average_real {N J : Type} [Fintype N] [Fintype J] (p : N → Prop) [DecidablePred p] (u : N → ℝ) (hu : ∀ n, 0 ≤ u n) (k c : ℝ)
    (hk : 0 < k) (x : N → J → ℝ) (w : J → ℝ) :
    ∑ j, (∑ n, if p n then x n j * (u n * k / ((∑ m, if p m then u m * k else 0) + c * k)) else 0) * w j
      = (∑ n, if p n then u n * ∑ j, x n j * w j else 0) / ((∑ n, if p n then u n else 0) + c) := by
  have hden : (∑ m, if p m then u m * k else 0) = (∑ m, if p m then u m else 0) * k := by
    rw [Finset.sum_mul]
    exact Finset.sum_congr rfl fun m _ => by split <;> simp
  rw [hden, ← add_mul]
  set D := (∑ m, if p m then u m else 0) + c
  have h1 : ∀ j, (∑ n, if p n then x n j * (u n * k / (D * k)) else 0) * w j = ∑ n, if p n then u n * (x n j * w j) / D else 0 := fun j => by
    rw [Finset.sum_mul]
    refine Finset.sum_congr rfl fun n _ => ?_
    split
    · rw [mul_div_mul_right _ _ hk.ne']; ring
    · rw [zero_mul]
  rw [Finset.sum_congr rfl fun j _ => h1 j, Finset.sum_comm, Finset.sum_div]
  refine Finset.sum_congr rfl fun n _ => ?_
  split
  · rw [Finset.mul_sum, Finset.sum_div]
  · rw [zero_div, Finset.sum_const_zero]

/-- The regulariser's weight is a positive real. -/
theorem reg_real : ∃ c : ℝ, 0 < c ∧ (Ideal.ofBits .f32 0x24E69595#32 : EReal) = (c : EReal) := by
  refine ⟨(2 ^ 23 + 6722965 : ℕ) * (2 : ℝ) ^ (73 - 127 - 23 : ℤ), by positivity, ?_⟩
  simp [Ideal.ofBits, Ideal.ieee]

/-- A finite sum of reals is real. -/
theorem coe_sum {N : Type} [Fintype N] (f : N → ℝ) : (∑ n, (f n : EReal)) = ((∑ n, f n : ℝ) : EReal) :=
  (map_sum (⟨⟨Real.toEReal, EReal.coe_zero⟩, EReal.coe_add⟩ : ℝ →+ EReal) f Finset.univ).symm

/-- A finite sum of reals, some dropped, is real. -/
theorem coe_sum_if {N : Type} [Fintype N] (p : N → Prop) [DecidablePred p] (f : N → ℝ) :
    (∑ n, if p n then (f n : EReal) else 0) = ((∑ n, if p n then f n else 0 : ℝ) : EReal) := by
  rw [← coe_sum]
  refine Finset.sum_congr rfl fun n _ => ?_
  split <;> rfl

/-- A finite real divided by a real other than zero. -/
theorem div_real (a b : ℝ) (hb : b ≠ 0) : Ideal.div (a : EReal) (b : EReal) = ((a / b : ℝ) : EReal) := by
  rw [Ideal.div_coe hb, ← EReal.coe_mul]
  congr 1
  ring

/-- Anything divided by +∞ is zero. -/
theorem div_top (a : EReal) : Ideal.div a ⊤ = 0 := by
  unfold Ideal.div
  rw [if_neg EReal.top_ne_zero, EReal.inv_top, mul_zero]

/-- An exponential is never negative. -/
theorem exp_nonneg (a : EReal) : 0 ≤ Ideal.exp a := by
  induction a with
  | bot => exact le_rfl
  | top => exact le_top
  | coe r => exact EReal.coe_nonneg.2 (Real.exp_pos r).le

/-- A real shift of the exponent is a factor, at the infinities too. -/
theorem exp_shift (a : EReal) (β s : ℝ) : Ideal.exp (a + (β : EReal) - (s : EReal)) = Ideal.exp a * ((Real.exp (β - s) : ℝ) : EReal) := by
  induction a with
  | bot => rw [EReal.bot_add, EReal.bot_sub, Ideal.exp_bot, zero_mul]
  | top => rw [EReal.top_add_coe, EReal.top_sub_coe, Ideal.exp_top, EReal.top_mul_coe_of_pos (Real.exp_pos _)]
  | coe r =>
    rw [← EReal.coe_add, ← EReal.coe_sub, Ideal.exp_coe, Ideal.exp_coe, ← EReal.coe_mul, ← Real.exp_add]
    congr 2
    ring

/-- A sum of terms that are never negative, one of them +∞, is +∞. -/
theorem sum_top {N : Type} [Fintype N] (f : N → EReal) (hf : ∀ n, 0 ≤ f n) (n : N) (hn : f n = ⊤) : ∑ m, f m = ⊤ :=
  top_le_iff.1 (hn ▸ Finset.single_le_sum (fun m _ => hf m) (Finset.mem_univ n))

/-- One segment's scaled, regularised average of rows against the last layer is the quotient of the unscaled sums, whatever the exponentials
    are: where one of them is +∞, both sides are zero. -/
theorem average_eq {N J : Type} [Fintype N] [Fintype J] (p : N → Prop) [DecidablePred p] (e : N → EReal) (he : ∀ n, 0 ≤ e n) (k c : ℝ)
    (hk : 0 < k) (hc : 0 < c) (x : N → J → ℝ) (w : J → ℝ) :
    ∑ j, (∑ n, if p n then (x n j : EReal) * Ideal.div (e n * (k : EReal)) ((∑ m, if p m then e m * (k : EReal) else 0) + ((c * k : ℝ) : EReal)) else 0)
        * (w j : EReal)
      = Ideal.div (∑ n, if p n then e n * ((∑ j, x n j * w j : ℝ) : EReal) else 0) ((∑ n, if p n then e n else 0) + (c : EReal)) := by
  by_cases h : ∃ n, p n ∧ e n = ⊤
  · obtain ⟨n, hn, hT⟩ := h
    have h1 : (∑ m, if p m then e m * (k : EReal) else 0) = ⊤ := by
      refine sum_top _ (fun m => ?_) n ?_
      · split
        · exact mul_nonneg (he m) (EReal.coe_nonneg.2 hk.le)
        · exact le_rfl
      · rw [if_pos hn, hT, EReal.top_mul_coe_of_pos hk]
    have h2 : (∑ m, if p m then e m else 0) = ⊤ := by
      refine sum_top _ (fun m => ?_) n ?_
      · split
        · exact he m
        · exact le_rfl
      · rw [if_pos hn, hT]
    rw [h1, h2, EReal.top_add_coe, EReal.top_add_coe, div_top]
    refine Finset.sum_eq_zero fun j _ => ?_
    rw [Finset.sum_eq_zero fun n _ => ?_, zero_mul]
    rw [div_top, mul_zero]
    exact ite_self _
  · set u : N → ℝ := fun n => (e n).toReal
    have hu : ∀ n, 0 ≤ u n := fun n => EReal.toReal_nonneg (he n)
    have e1 : ∀ n, p n → e n = (u n : EReal) := fun n hn =>
      (EReal.coe_toReal (fun hT => h ⟨n, hn, hT⟩) (fun hB => by have := he n; rw [hB] at this; exact absurd this (by decide))).symm
    have hD0 : (0 : ℝ) ≤ ∑ n, if p n then u n else 0 := Finset.sum_nonneg fun n _ => by
      split
      · exact hu n
      · exact le_rfl
    have hDk : (0 : ℝ) ≤ ∑ n, if p n then u n * k else 0 := Finset.sum_nonneg fun n _ => by
      split
      · exact mul_nonneg (hu n) hk.le
      · exact le_rfl
    have s1 : (∑ m, if p m then e m * (k : EReal) else 0) = ((∑ m, if p m then u m * k else 0 : ℝ) : EReal) := by
      rw [← coe_sum_if]
      refine Finset.sum_congr rfl fun m _ => ?_
      split
      · rename_i hm
        rw [e1 m hm, EReal.coe_mul]
      · rfl
    have s2 : (∑ m, if p m then e m else 0) = ((∑ m, if p m then u m else 0 : ℝ) : EReal) := by
      rw [← coe_sum_if]
      refine Finset.sum_congr rfl fun m _ => ?_
      split
      · rename_i hm
        exact e1 m hm
      · rfl
    have s3 : (∑ n, if p n then e n * ((∑ j, x n j * w j : ℝ) : EReal) else 0) = ((∑ n, if p n then u n * ∑ j, x n j * w j else 0 : ℝ) : EReal) := by
      rw [← coe_sum_if]
      refine Finset.sum_congr rfl fun m _ => ?_
      split
      · rename_i hm
        rw [e1 m hm, EReal.coe_mul]
      · rfl
    rw [s1, s2, s3, ← EReal.coe_add, ← EReal.coe_add, div_real _ _ (add_pos_of_nonneg_of_pos hD0 hc).ne', ← average_real p u hu k c hk x w,
      ← coe_sum]
    refine Finset.sum_congr rfl fun j _ => ?_
    rw [EReal.coe_mul, ← coe_sum_if]
    refine congrArg (· * (w j : EReal)) (Finset.sum_congr rfl fun n _ => ?_)
    split
    · rename_i hn
      rw [e1 n hn, ← EReal.coe_mul, div_real _ _ (add_pos_of_nonneg_of_pos hDk (mul_pos hc hk)).ne', EReal.coe_mul]
    · rfl

/-- The values of finite arguments are real. -/
theorem valueOf_real {x : FVec Ideal ⟨2, ![100000, 256]⟩ .f32} {wo : FVec Ideal ⟨2, ![256, 1]⟩ .f32} {xr : Fin 100000 → Fin 256 → ℝ}
    {wr : Fin 256 → ℝ} (hx : ∀ n j, (x (ix2 n j) : EReal) = xr n j) (hw : ∀ j, (wo (ix2 j 0) : EReal) = wr j) (n : Fin 100000) :
    valueOf x wo n = ((∑ j, xr n j * wr j : ℝ) : EReal) := by
  unfold valueOf
  simp only [hx, hw, ← EReal.coe_mul, coe_sum]

end Cert.Proof.Seg
-- ==== Proof.Equal.lean ====
/-
  From finite rows, second offset and output weights, and ids in range, the kernel's result and the reference's are the same extended reals.
-/
module

public import proofs.«01_k».proof.Proof.Gates
public import proofs.«01_k».proof.Proof.Tables
public import proofs.«01_k».proof.Proof.Reference
public import proofs.«01_k».proof.Proof.Average

@[expose] public section

set_option maxRecDepth 16384

noncomputable section

namespace Cert.Proof.Seg

open Idealize.ShloMosaic

/-- A sum over the padded nodes whose terms past the last node are zero. -/
theorem sum_nodes (f : Fin 100352 → EReal) (h : ∀ n : Fin 100352, 100000 ≤ n.val → f n = 0) :
    ∑ n : Fin 100352, f n = ∑ n : Fin 100000, f ⟨n.val, by omega⟩ := by
  rw [show (∑ n : Fin 100352, f n) = ∑ n : Fin (100000 + 352), f n from rfl, Fin.sum_univ_add]
  have h0 : ∑ k : Fin 352, f (Fin.natAdd 100000 k) = 0 := Finset.sum_eq_zero fun k _ => h _ (by show 100000 ≤ 100000 + k.val; omega)
  rw [h0, add_zero]
  rfl

/-- The padded ids are the ids at the nodes. -/
theorem idsOf_apply (ids : IVec (⟨1, ![100000]⟩ : Shape) 32) (n : Fin 100000) :
    (idsOf (F := Ideal) ids (ix1 ⟨n.val, by omega⟩) : BitVec 32) = ids (ix1 n) := by
  pointwise [idsOf]

/-- A finite array's entries are its real parts. -/
theorem real_part {s : Shape} {x : FVec Ideal s .f32} (h : Finite x) (i : s.Idx) : (x i : EReal) = ((x i : EReal).toReal : EReal) :=
  (EReal.coe_toReal (h i).1 (h i).2).symm

section
variable {x : FVec Ideal ⟨2, ![100000, 256]⟩ .f32} {ids : IVec (⟨1, ![100000]⟩ : Shape) 32} {w1 : FVec Ideal ⟨2, ![256, 16]⟩ .f32}
  {b1 : FVec Ideal ⟨1, ![16]⟩ .f32} {w2 : FVec Ideal ⟨2, ![16, 1]⟩ .f32} {b2 : FVec Ideal ⟨1, ![1]⟩ .f32} {wo : FVec Ideal ⟨2, ![256, 1]⟩ .f32}
  {bo : FVec Ideal ⟨1, ![1]⟩ .f32} {xr : Fin 100000 → Fin 256 → ℝ} {wr : Fin 256 → ℝ} {c : ℝ}

/-- The segment a node's id names. -/
def segOf (h : IdsIn ids) (n : Fin 100000) : Fin 512 := ⟨(ids (ix1 n)).toNat, h _⟩

/-- A node is in a segment when its id is the segment's number. -/
theorem segOf_eq (h : IdsIn ids) (n : Fin 100000) (q : Fin 512) : segOf h n = q ↔ (ids (ix1 n)).toNat = q.val := Fin.ext_iff

/-- A segment's sum of exponentials times values over its sum of exponentials and the regulariser. -/
def quotient (h : IdsIn ids) (γ : Fin 100000 → EReal) (xr : Fin 100000 → Fin 256 → ℝ) (wr : Fin 256 → ℝ) (c : ℝ) (q : Fin 512) : EReal :=
  Ideal.div (∑ n, if segOf h n = q then Ideal.exp (γ n) * ((∑ j, xr n j * wr j : ℝ) : EReal) else 0)
    ((∑ n, if segOf h n = q then Ideal.exp (γ n) else 0) + (c : EReal))

/-- The kernel's result: each segment's quotient, and the offset. -/
theorem kernel_value (h : IdsIn ids) (hv : ∀ n, valueOf x wo n = ((∑ j, xr n j * wr j : ℝ) : EReal))
    (hce : (Ideal.ofBits .f32 0x24E69595#32 : EReal) = (c : EReal)) {h2} {den num : Vec Ideal Cert.KernelIdeal.S512x513 .f32}
    (hT : ∀ p, ∃ g y, (GateOK x (wcatOf w1 wo) (colOf b1) (colOf (shapeCast Cert.KernelIdeal.S16 w2 h2)) g ∧ ValueOK x (wcatOf w1 wo) y)
      ∧ TileOut (coordsP p) g y (idsOf (F := Ideal) ids) den num) {h1 h3} (q : Fin 512) :
    (shapeCast Cert.KernelIdeal.S512x1 (Cert.KernelIdeal.Gen.k2_pay1 (F := Ideal) den num (shapeCast Cert.KernelIdeal.S1x1 bo h1)) h3 (ix2 q 0) : EReal)
      = quotient h (gateOf x w1 b1 w2) xr wr c q + (bo (ix1 0) : EReal) := by
  have hF : Filled (fun n => if h : n.val < 100000 then gateOf x w1 b1 w2 ⟨n.val, h⟩ else ⊥)
      (fun n => if h : n.val < 100000 then valueOf x wo ⟨n.val, h⟩ else 0) (idsOf (F := Ideal) ids) den num := fun p => by
    obtain ⟨g, y, ⟨hg, hy⟩, ht⟩ := hT p
    exact ⟨g, y, gate_apply hg, value_apply hy, ht⟩
  have e0 : shapeCast Cert.KernelIdeal.S512x1 (Cert.KernelIdeal.Gen.k2_pay1 (F := Ideal) den num (shapeCast Cert.KernelIdeal.S1x1 bo h1)) h3 (ix2 q 0)
      = Cert.KernelIdeal.Gen.k2_pay1 (F := Ideal) den num (shapeCast Cert.KernelIdeal.S1x1 bo h1) (ix2 0 q) := by pointwise
  have e1 : shapeCast Cert.KernelIdeal.S1x1 bo h1 (ix2 0 0) = bo (ix1 0) := by pointwise
  have ed : (∑ y : Fin 512, (den (ix2 y ⟨q.val, by omega⟩) : EReal)) = ∑ n, if segOf h n = q then Ideal.exp (gateOf x w1 b1 w2 n) else 0 := by
    rw [den_sum hF _ q.isLt, sum_nodes]
    · refine Finset.sum_congr rfl fun n _ => ?_
      rw [idsOf_apply, dif_pos n.isLt]
      exact if_congr (segOf_eq h n q).symm rfl rfl
    · intro n hn
      rw [dif_neg (by omega), Ideal.exp_bot]
      exact ite_self _
  have en : (∑ y : Fin 512, (num (ix2 y ⟨q.val, by omega⟩) : EReal))
      = ∑ n, if segOf h n = q then Ideal.exp (gateOf x w1 b1 w2 n) * ((∑ j, xr n j * wr j : ℝ) : EReal) else 0 := by
    rw [num_sum hF _ q.isLt, sum_nodes]
    · refine Finset.sum_congr rfl fun n _ => ?_
      rw [idsOf_apply, dif_pos n.isLt, dif_pos n.isLt, hv]
      exact if_congr (segOf_eq h n q).symm rfl rfl
    · intro n hn
      rw [dif_neg (by omega), Ideal.exp_bot, zero_mul]
      exact ite_self _
  rw [e0, fin_apply, e1, ed, en, hce]
  rfl

/-- The reference's result: the average of the rows its segment holds, against the last layer, which is the same quotient. -/
theorem reference_value (h : IdsIn ids) (hx : ∀ n j, (x (ix2 n j) : EReal) = xr n j)
    (hw : ∀ j, (wo (ix2 j 0) : EReal) = wr j) {β : ℝ} (hβ : (b2 (ix1 0) : EReal) = (β : EReal))
    (hc : 0 < c) (hce : (Ideal.ofBits .f32 0x24E69595#32 : EReal) = (c : EReal)) (q : Fin 512) :
    (Ref.result x ids w1 b1 w2 b2 wo bo (ix2 q 0) : EReal) = quotient h (gateOf x w1 b1 w2) xr wr c q + (bo (ix1 0) : EReal) := by
  choose s hs using fun q : Fin 512 => Ref.shift_real (Ref.rawMax ids (Ref.gate x w1 b1 w2 b2)) q
  unfold Ref.result
  set g := Ref.gate x w1 b1 w2 b2
  set t := Ref.shift (Ref.rawMax ids g)
  have he : ∀ n, (Ref.expGate g t ids (ix1 n) : EReal)
      = Ideal.exp (gateOf x w1 b1 w2 n) * ((Real.exp (β - s (segOf h n)) : ℝ) : EReal) := fun n => by
    rw [← exp_shift, ← hβ]
    show Ideal.exp ((g (ix1 n) : EReal) - (Ref.atIds t ids (ix1 n) : EReal)) = _
    have h1 : (g (ix1 n) : EReal) = gateOf x w1 b1 w2 n + (b2 (ix1 0) : EReal) := Ref.gate_apply x w1 b1 w2 b2 n
    have h2 : (Ref.atIds t ids (ix1 n) : EReal) = (s (segOf h n) : EReal) := (Ref.atIds_apply t ids h n).trans (hs (segOf h n))
    rw [h1, h2]
  set e := Ref.expGate g t ids
  have hd : ∀ q, (Ref.segSum e ids (ix1 q) : EReal)
      = ∑ n, if segOf h n = q then Ideal.exp (gateOf x w1 b1 w2 n) * ((Real.exp (β - s q) : ℝ) : EReal) else 0 := fun q => by
    rw [Ref.segSum_apply e ids h]
    refine Finset.sum_congr rfl fun n _ => ?_
    refine (if_congr (segOf_eq h n q).symm (he n) rfl).trans ?_
    split
    · rename_i hq
      rw [hq]
    · rfl
  have hr : ∀ q, (Ref.reg b2 t (ix1 q) : EReal) = ((c * Real.exp (β - s q) : ℝ) : EReal) := fun q => by
    have e1 : (broadcastInDim Cert.ReferenceIdeal.S512 ![0] Cert.ReferenceIdeal.Gen.facts.bcast_S1_S512_0 b2 (ix1 q) : EReal) = b2 (ix1 0) := by pointwise
    show (Ideal.ofBits .f32 0x24E69595#32 : EReal) * Ideal.exp ((broadcastInDim _ _ _ b2 (ix1 q) : EReal) - (t (ix1 q) : EReal)) = _
    rw [e1, hce, hβ, hs, ← EReal.coe_sub, Ideal.exp_coe, ← EReal.coe_mul]
  have ha : ∀ n, segOf h n = q → (Ref.weight e (Ref.segSum e ids) (Ref.reg b2 t) ids (ix1 n) : EReal)
      = Ideal.div (Ideal.exp (gateOf x w1 b1 w2 n) * ((Real.exp (β - s q) : ℝ) : EReal))
        ((∑ m, if segOf h m = q then Ideal.exp (gateOf x w1 b1 w2 m) * ((Real.exp (β - s q) : ℝ) : EReal) else 0)
          + ((c * Real.exp (β - s q) : ℝ) : EReal)) := by
    rintro n rfl
    exact (Ref.weight_apply e _ _ ids h n).trans (congrArg₂ Ideal.div (he n) (congrArg₂ (· + ·) (hd (segOf h n)) (hr (segOf h n))))
  rw [Ref.out_apply]
  refine congrArg (· + (bo (ix1 0) : EReal)) ?_
  refine Eq.trans ?_ (average_eq (fun n => segOf h n = q) (fun n => Ideal.exp (gateOf x w1 b1 w2 n)) (fun n => exp_nonneg _) (Real.exp (β - s q)) c
    (Real.exp_pos _) hc xr wr)
  refine Finset.sum_congr rfl fun j _ => ?_
  rw [Ref.pool_apply _ _ ids h, hw]
  refine congrArg (· * (wr j : EReal)) (Finset.sum_congr rfl fun n _ => ?_)
  refine (if_congr (segOf_eq h n q).symm rfl rfl).trans ?_
  split
  · rename_i hq
    rw [hx, ha n hq]
  · rfl

/-- Two columns of 512 are equal when their entries are. -/
theorem column_ext {r r' : (⟨2, ![512, 1]⟩ : Shape).Idx → EReal} (h : ∀ q : Fin 512, r (ix2 q 0) = r' (ix2 q 0)) : r = r' := by
  funext i
  have e : i = ix2 (i 0) (0 : Fin 1) := (eq_ix2 i).trans (congrArg (ix2 (i 0)) (Subsingleton.elim (α := Fin 1) (i 1) 0))
  rw [e]
  exact h (i 0)

/-- From finite rows, second offset and output weights, and ids in range, the two results are equal. -/
theorem results_agree (h : IdsIn ids) (fx : Finite x) (fb2 : Finite b2) (fwo : Finite wo)
    {h2} {den num : Vec Ideal Cert.KernelIdeal.S512x513 .f32}
    (hT : ∀ p, ∃ g y, (GateOK x (wcatOf w1 wo) (colOf b1) (colOf (shapeCast Cert.KernelIdeal.S16 w2 h2)) g ∧ ValueOK x (wcatOf w1 wo) y)
      ∧ TileOut (coordsP p) g y (idsOf (F := Ideal) ids) den num) {h1 h3} :
    shapeCast Cert.KernelIdeal.S512x1 (Cert.KernelIdeal.Gen.k2_pay1 (F := Ideal) den num (shapeCast Cert.KernelIdeal.S1x1 bo h1)) h3
      = Ref.result x ids w1 b1 w2 b2 wo bo := by
  obtain ⟨c, hc, hce⟩ := reg_real
  have hx := fun (n : Fin 100000) (j : Fin 256) => real_part fx (ix2 n j)
  have hw := fun (j : Fin 256) => real_part fwo (ix2 j 0)
  refine column_ext fun q => ?_
  exact (kernel_value h (valueOf_real hx hw) hce hT q).trans (reference_value h hx hw (real_part fb2 (ix1 0)) hc hce q).symm

end

end Cert.Proof.Seg
-- ==== Proof.Algebraic.lean ====
/-
  The value claim: over the extended reals the kernel and the reference leave equal results.
-/
module

public import proofs.«01_k».proof.Proof.Equal
public import proofs.«01_k».proof.Proof.Frames

@[expose] public section

set_option maxRecDepth 16384

noncomputable section

namespace Cert.Proof

open Idealize.ShloMosaic Idealize.ShloMosaic.TcCoe Idealize.SL.Sem

section
variable [Cert.Pre_ids_in_range.Facts] [Cert.Pre_finite_and_in_range.Facts]

/-- The result the kernel's run is known to leave is the reference's. -/
theorem out_eq (m : (ℓ : Loc Cert.KernelIdeal.nD Cert.KernelIdeal.τ Cert.KernelIdeal.sig) → Buf (Elt Ideal) ℓ) (c : Dev Cert.KernelIdeal.nD)
    (hp : Pre_KernelIdeal_finite_and_in_range m) {r : Vec Ideal Cert.KernelIdeal.S512x1 .f32} (hr : Seg.OutOK m c r) :
    r = Ref.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨den, num, hT, rfl⟩ := hr
  obtain ⟨hi, h0, h5, h6⟩ := all_of_pre (hp c)
  exact Seg.results_agree hi h0 h5 h6 hT

/-- Kernel and reference, from memories that agree on the arguments: equal results, unchanged arguments. -/
theorem algebraic : algebraic_KernelIdeal_ReferenceIdeal_pre_finite_and_in_range := fun m g m' g' hp ha =>
  ⟨fun c => Cert.ReferenceIdeal.Value.res_main_v66 m' c,
    (θ_run _ _ _).mono (fun _ h c => ⟨by
      refine Eq.trans ?_ (Ref.result_eq m' c).symm
      obtain ⟨e0, e1, e2, e3, e4, e5, e6, e7⟩ := ha c
      rw [e0, e1, e2, e3, e4, e5, e6, e7]
      exact out_eq m c hp (h.1 c).2, args_kept m _ c (h.1 c).1⟩)
      (Seg.run_main m g fun d j => padded_ids_lt _ (all_of_pre (hp d)).1 j),
    Cert.ReferenceIdeal.Value.run m' g'⟩

end

end Cert.Proof

end
-- ==== Proof.lean ====
/-
  The certificate: the frames of the kernel as printed, of its ideal form and of the reference, that the ideal form is the
  printed kernel with its mask constant named, and that ideal form and reference leave equal results over the extended reals.
-/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

/-- The ids' range predicate states only what holds of its shapes. -/
theorem facts_ids : Cert.Pre_ids_in_range.Facts := ⟨by decide, by decide, by decide⟩

/-- The finiteness predicate states only what holds of its shapes. -/
theorem facts_finite : Cert.Pre_finite_and_in_range.Facts :=
  ⟨by decide, by decide, by decide, by decide, by decide, by decide, by decide, by decide, by decide⟩

/-- The certificate. -/
theorem claim : Cert.Claim :=
  haveI := facts_ids
  haveI := facts_finite
  ⟨Cert.Kernel.Gen.facts, Cert.KernelIdeal.Gen.facts, Cert.ReferenceIdeal.Gen.facts, facts_ids, facts_finite,
    frame_Kernel, frame_KernelIdeal, frame_KernelIdeal', frame_ReferenceIdeal, frame_ReferenceIdeal',
    IdealRules.named_const.statement Cert.KernelIdeal.κ "mask" .f32 0xF149F2CA#32 ⊥ rfl, algebraic⟩

end Cert.Proof

end
